-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 1024, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 1024, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 1024, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.blockN ⟨4, ![2, 256, 8, 64]⟩ ⟨4, ![2, 1024, 8, 64]⟩ (Layout.meshBlock [2, 4, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .f32) (main_arg1 : FVec F S2x256x8x64 .f32) (main_arg2 : FVec F S2x256x8x64 .f32) : IVec S_ 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .f32 := Host.absf main_arg1
  let main_cst_0 : FVec F S_ .f32 := constant S_ .f32 0x7F800000#32
  let main_v5 : FVec F S2x256x8x64 .f32 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  main_v8
-- ==== Pre_finite_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .f32) (main_arg1 : FVec F S2x1024x8x64 .f32) (main_arg2 : FVec F S2x1024x8x64 .f32) : IVec S_ 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_v4 : FVec F S2x1024x8x64 .f32 := Host.absf main_arg1
  let main_cst_0 : FVec F S_ .f32 := constant S_ .f32 0x7F800000#32
  let main_v5 : FVec F S2x1024x8x64 .f32 := broadcastInDim S2x1024x8x64 ![] bcast_S_S2x1024x8x64 main_cst_0
  let main_v6 : IVec S2x1024x8x64 1 := cmpf .olt main_v4 main_v5
  let main_c_1 : IVec S_ 1 := constantI S_ 1 1#1
  let main_v7 : IVec S_ 1 := (fun x v => Host.reduce IntOp.andi x v reducesTo_S2x1024x8x64_S_d0_1_2_3 h_S_) main_v6 main_c_1
  let main_v8 : IVec S_ 1 := andi main_v3 main_v7
  main_v8
-- ==== Kernel.lean ====
abbrev S2x256x8x64 : Shape := ⟨4, ![2, 256, 8, 64]⟩
abbrev S2x8x256x64 : Shape := ⟨4, ![2, 8, 256, 64]⟩
abbrev S_ : Shape := ⟨0, ![]⟩
abbrev S16x256x64 : Shape := ⟨3, ![16, 256, 64]⟩
abbrev S2x8x64x256 : Shape := ⟨4, ![2, 8, 64, 256]⟩
abbrev S16x64x256 : Shape := ⟨3, ![16, 64, 256]⟩
abbrev S16x64x128 : Shape := ⟨3, ![16, 64, 128]⟩
abbrev S1x16x64x128 : Shape := ⟨4, ![1, 16, 64, 128]⟩
abbrev S2x16x64x128 : Shape := ⟨4, ![2, 16, 64, 128]⟩
abbrev S4x2x16x64x128 : Shape := ⟨5, ![4, 2, 16, 64, 128]⟩
abbrev S3 : Shape := ⟨1, ![3]⟩
abbrev S256x64 : Shape := ⟨2, ![256, 64]⟩
abbrev S256x1 : Shape := ⟨2, ![256, 1]⟩
abbrev S1 : Shape := ⟨1, ![1]⟩
abbrev S1x2x16x64x128 : Shape := ⟨5, ![1, 2, 16, 64, 128]⟩
abbrev S1x1x64x128 : Shape := ⟨4, ![1, 1, 64, 128]⟩
abbrev S64x128 : Shape := ⟨2, ![64, 128]⟩
abbrev S1x256x64 : Shape := ⟨3, ![1, 256, 64]⟩
abbrev S256x128 : Shape := ⟨2, ![256, 128]⟩
abbrev S256 : Shape := ⟨1, ![256]⟩
abbrev S1x1x1x64x128 : Shape := ⟨5, ![1, 1, 1, 64, 128]⟩

abbrev nBuf : Space → Nat
  | .hbm => 25
  | .vmem => 6
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x8x256x64, .f32⟩
  | .hbm, ⟨4, _⟩ => ⟨S_, .f32⟩
  | .hbm, ⟨5, _⟩ => ⟨S2x8x256x64, .f32⟩
  | .hbm, ⟨6, _⟩ => ⟨S2x8x256x64, .f32⟩
  | .hbm, ⟨7, _⟩ => ⟨S16x256x64, .f32⟩
  | .hbm, ⟨8, _⟩ => ⟨S2x8x64x256, .f32⟩
  | .hbm, ⟨9, _⟩ => ⟨S16x64x256, .f32⟩
  | .hbm, ⟨10, _⟩ => ⟨S2x8x64x256, .f32⟩
  | .hbm, ⟨11, _⟩ => ⟨S16x64x256, .f32⟩
  | .hbm, ⟨12, _⟩ => ⟨S16x64x128, .f32⟩
  | .hbm, ⟨13, _⟩ => ⟨S16x64x128, .f32⟩
  | .hbm, ⟨14, _⟩ => ⟨S1x16x64x128, .f32⟩
  | .hbm, ⟨15, _⟩ => ⟨S1x16x64x128, .f32⟩
  | .hbm, ⟨16, _⟩ => ⟨S2x16x64x128, .f32⟩
  | .hbm, ⟨17, _⟩ => ⟨S16x64x128, .f32⟩
  | .hbm, ⟨18, _⟩ => ⟨S16x64x128, .f32⟩
  | .hbm, ⟨19, _⟩ => ⟨S1x16x64x128, .f32⟩
  | .hbm, ⟨20, _⟩ => ⟨S1x16x64x128, .f32⟩
  | .hbm, ⟨21, _⟩ => ⟨S2x16x64x128, .f32⟩
  | .hbm, ⟨22, _⟩ => ⟨S16x256x64, .f32⟩
  | .hbm, ⟨23, _⟩ => ⟨S2x8x256x64, .f32⟩
  | .hbm, ⟨24, _⟩ => ⟨S2x256x8x64, .f32⟩
  | .local _ .vmem, ⟨0, _⟩ => ⟨S16x256x64, .f32⟩
  | .local _ .vmem, ⟨1, _⟩ => ⟨S2x16x64x128, .f32⟩
  | .local _ .vmem, ⟨2, _⟩ => ⟨S2x16x64x128, .f32⟩
  | .local _ .vmem, ⟨3, _⟩ => ⟨S16x256x64, .f32⟩
  | .local _ .vmem, ⟨4, _⟩ => ⟨S4x2x16x64x128, .f32⟩
  | .local _ .vmem, ⟨5, _⟩ => ⟨S4x2x16x64x128, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_18 : BitVec 32 := 4#32
  let v34 : BitVec 32 := Scalar.muli v30 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v36 : BitVec 32 := Scalar.muli v8 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_23 : BitVec 32 := 4#32
  let v40 : BitVec 32 := Scalar.muli v19 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v76 : BitVec 32 := Scalar.muli v2 c16_i32_60
  let v77 : BitVec 32 := Scalar.addi c0_i32_61 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_62 : BitVec 32 := 4#32
  let v78 : BitVec 32 := Scalar.muli v19 c4_i32_62
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v80 : BitVec 32 := Scalar.muli v8 c1_i32_63
  let v81 : BitVec 32 := Scalar.addi v79 v80
  v81.toNat
def k0_dev4 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v88 : BitVec 32 := Scalar.muli v2 c16_i32_71
  let v89 : BitVec 32 := Scalar.addi c0_i32_72 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_73 : BitVec 32 := 4#32
  let v90 : BitVec 32 := Scalar.muli v30 c4_i32_73
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v92 : BitVec 32 := Scalar.muli v8 c1_i32_74
  let v93 : BitVec 32 := Scalar.addi v91 v92
  v93.toNat
def k0_dev5 (d0 : Dev nD) : Nat :=
  let c0_i32_554 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_553 : BitVec 32 := 16#32
  let v544 : BitVec 32 := Scalar.muli v2 c16_i32_553
  let v545 : BitVec 32 := Scalar.addi c0_i32_554 v544
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_555 : BitVec 32 := 4#32
  let v546 : BitVec 32 := Scalar.muli v19 c4_i32_555
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v548 : BitVec 32 := Scalar.muli v8 c1_i32_556
  let v549 : BitVec 32 := Scalar.addi v547 v548
  v549.toNat
def k0_dev6 (d0 : Dev nD) : Nat :=
  let c0_i32_570 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_569 : BitVec 32 := 16#32
  let v558 : BitVec 32 := Scalar.muli v2 c16_i32_569
  let v559 : BitVec 32 := Scalar.addi c0_i32_570 v558
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_571 : BitVec 32 := 4#32
  let v560 : BitVec 32 := Scalar.muli v30 c4_i32_571
  let v561 : BitVec 32 := Scalar.addi v559 v560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_572 : BitVec 32 := 1#32
  let v562 : BitVec 32 := Scalar.muli v8 c1_i32_572
  let v563 : BitVec 32 := Scalar.addi v561 v562
  v563.toNat
def k0_dev7 (d0 : Dev nD) : Nat :=
  let c0_i32_1155 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1154 : BitVec 32 := 16#32
  let v1024 : BitVec 32 := Scalar.muli v2 c16_i32_1154
  let v1025 : BitVec 32 := Scalar.addi c0_i32_1155 v1024
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1156 : BitVec 32 := 4#32
  let v1026 : BitVec 32 := Scalar.muli v19 c4_i32_1156
  let v1027 : BitVec 32 := Scalar.addi v1025 v1026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1157 : BitVec 32 := 1#32
  let v1028 : BitVec 32 := Scalar.muli v8 c1_i32_1157
  let v1029 : BitVec 32 := Scalar.addi v1027 v1028
  v1029.toNat
def k0_dev8 (d0 : Dev nD) : Nat :=
  let c0_i32_1171 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1170 : BitVec 32 := 16#32
  let v1038 : BitVec 32 := Scalar.muli v2 c16_i32_1170
  let v1039 : BitVec 32 := Scalar.addi c0_i32_1171 v1038
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.subi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_1172 : BitVec 32 := 4#32
  let v1040 : BitVec 32 := Scalar.muli v30 c4_i32_1172
  let v1041 : BitVec 32 := Scalar.addi v1039 v1040
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1173 : BitVec 32 := 1#32
  let v1042 : BitVec 32 := Scalar.muli v8 c1_i32_1173
  let v1043 : BitVec 32 := Scalar.addi v1041 v1042
  v1043.toNat
abbrev stage0_0 : Fin 1 → Memref sig .tc .vmem S16x256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x8x1024x1024, .f32⟩
  | .hbm, ⟨4, _⟩ => ⟨S_, .f32⟩
  | .hbm, ⟨5, _⟩ => ⟨S2x8x1024x1024, .f32⟩
  | .hbm, ⟨6, _⟩ => ⟨S2x8x1024x1024, .f32⟩
  | .hbm, ⟨7, _⟩ => ⟨S_, .f32⟩
  | .hbm, ⟨8, _⟩ => ⟨S2x8x1024, .f32⟩
  | .hbm, ⟨9, _⟩ => ⟨S2x8x1024x1, .f32⟩
  | .hbm, ⟨10, _⟩ => ⟨S2x8x1024x1024, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x64x1024, .f32⟩
  | .hbm, ⟨19, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/-
# The ring: devices, buffers, semaphores, the schedule of the exchange

The kernel runs one body on every device. A device holds half of its keys and values in the operand
`R0` and half in `L0`; three hops send the first half to the right neighbour and the second half to
the left neighbour. A direction is a `Bool` (`true` is rightwards), a hop a `Fin 3`, a slot of a
landing buffer a `Fin 4` (slot 0 is never used).

Everything here is said over any float values `F`; the contents the three operands start from are
parameters.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Harness.Basic

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev UB : Type := URounds (GSem nD τ sig) Bool
abbrev UU : Type := UR sig nD τ × UB

variable {F : FTy → Type}

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring of the `y` axis -/

/-- The right neighbour: one step along `y`, on the same `x` and `z`. -/
def nxt (c : Dev nD) : Dev nD := ⟨c.val / 16 * 16 + (c.val / 4 % 4 + 1) % 4 * 4 + c.val % 4, by have := c.isLt; simp only [nD] at *; omega⟩
/-- The left neighbour. -/
def prv (c : Dev nD) : Dev nD := ⟨c.val / 16 * 16 + (c.val / 4 % 4 + 3) % 4 * 4 + c.val % 4, by have := c.isLt; simp only [nD] at *; omega⟩

theorem prv_nxt (c : Dev nD) : prv (nxt c) = c := by revert c; decide +kernel
theorem nxt_prv (c : Dev nD) : nxt (prv c) = c := by revert c; decide +kernel

/-- The device a copy of direction `s` goes to, and the one it comes from. -/
def toD : Bool → Dev nD → Dev nD | true => nxt | false => prv
def frmD : Bool → Dev nD → Dev nD | true => prv | false => nxt

theorem toD_frmD (s : Bool) (c : Dev nD) : toD s (frmD s c) = c := by cases s; exacts [prv_nxt c, nxt_prv c]
theorem frmD_toD (s : Bool) (c : Dev nD) : frmD s (toD s c) = c := by cases s; exacts [nxt_prv c, prv_nxt c]

def turn (s : Bool) : Dev nD ≃ Dev nD := ⟨toD s, frmD s, frmD_toD s, toD_frmD s⟩

theorem dev1_eq (c : Dev nD) : (⟨k0_dev1 c, k0_dev1_lt c⟩ : Dev nD) = frmD true c := by revert c; decide +kernel
theorem dev2_eq (c : Dev nD) : (⟨k0_dev2 c, k0_dev2_lt c⟩ : Dev nD) = frmD false c := by revert c; decide +kernel
theorem dev3_eq (c : Dev nD) : (⟨k0_dev3 c, k0_dev3_lt c⟩ : Dev nD) = toD true c := by revert c; decide +kernel
theorem dev4_eq (c : Dev nD) : (⟨k0_dev4 c, k0_dev4_lt c⟩ : Dev nD) = toD false c := by revert c; decide +kernel
theorem dev5_eq (c : Dev nD) : (⟨k0_dev5 c, k0_dev5_lt c⟩ : Dev nD) = toD true c := by revert c; decide +kernel
theorem dev6_eq (c : Dev nD) : (⟨k0_dev6 c, k0_dev6_lt c⟩ : Dev nD) = toD false c := by revert c; decide +kernel
theorem dev7_eq (c : Dev nD) : (⟨k0_dev7 c, k0_dev7_lt c⟩ : Dev nD) = toD true c := by revert c; decide +kernel
theorem dev8_eq (c : Dev nD) : (⟨k0_dev8 c, k0_dev8_lt c⟩ : Dev nD) = toD false c := by revert c; decide +kernel

/-! ## The buffers -/

/-- The landing buffer of a direction: four slots of keys and values. -/
abbrev bufM : Bool → Memref sig .tc .vmem S4x2x16x64x128 .f32
  | true => Memref.whole cc0_scratch0
  | false => Memref.whole cc0_scratch1

/-- The operand of a direction: the device's own half of keys and values. -/
abbrev opM : Bool → Memref sig .tc .vmem S2x16x64x128 .f32
  | true => Memref.whole cc0_stg1_0
  | false => Memref.whole cc0_stg2_0

theorem inb_slot (j : Fin 4) : ∀ a, (![j.val, 0, 0, 0, 0] : Fin 5 → Nat) a + S1x2x16x64x128.size a ≤ S4x2x16x64x128.size a := by
  revert j; decide

abbrev slotR (j : Fin 4) : Rect S4x2x16x64x128 :=
  Rect.unit (s := S4x2x16x64x128) ![j.val, 0, 0, 0, 0] S1x2x16x64x128.size (inb_slot j)

/-- Slot `j` of a landing buffer, as the copies address it. -/
abbrev slotM (s : Bool) (j : Fin 4) : Memref sig .tc .vmem S2x16x64x128 .f32 :=
  ((bufM s).slice (slotR j) (fun _ => rfl)).squeeze S2x16x64x128 squeezes_S1x2x16x64x128_S2x16x64x128

/-- What hop `h` copies from: the operand at the first hop, then the slot the last hop filled. -/
abbrev srcM (s : Bool) : Fin 3 → Memref sig .tc .vmem S2x16x64x128 .f32
  | 0 => opM s
  | 1 => slotM s 1
  | 2 => slotM s 2

def N : ℕ := (slotM true 0).view.dmaCredit
theorem N_pos : 0 < N := View.dmaCredit_pos _ (by decide)
theorem slot_credit (s : Bool) (j : Fin 4) : (slotM s j).view.dmaCredit = N := by cases s <;> rfl

/-! ## The semaphores and their cells -/

/-- The DMA semaphore of direction `s`, receiving (`v`) or sending, of hop `h`. -/
def dq (s v : Bool) (h : Fin 3) : DmaSem sig :=
  ⟨4 + (if s then 0 else 6) + (if v then 3 else 0) + h.val, by cases s <;> cases v <;> (have := h.isLt; simp; omega)⟩

abbrev barS : Sem sig := barrier0
abbrev bar (c : Dev nD) : GSem nD τ sig := ((c : Thread nD τ), .reg barS)
abbrev xc (s v : Bool) (h : Fin 3) (c : Dev nD) : GSem nD τ sig := ((c : Thread nD τ), .dma (dq s v h))

/-- The exchange's cells of one device, by direction, end and hop. -/
abbrev XI : Type := Bool × Bool × Fin 3
abbrev osem (i : XI) : SemLoc sig := .dma (dq i.1 i.2.1 i.2.2)
theorem osem_inj : Function.Injective osem := by decide

/-! ## The contents -/

/-- What a device starts from: the operand of each direction. -/
abbrev Start (F : FTy → Type) : Type := Bool → Dev nD → (S2x16x64x128.Idx → Elt F .f32)

/-- `n` steps against the direction `s`: where the block held after `n` hops came from. -/
def back (s : Bool) : ℕ → Dev nD → Dev nD
  | 0, c => c
  | n + 1, c => back s n (frmD s c)

theorem back_toD (s : Bool) (n : ℕ) (c : Dev nD) : back s (n + 1) (toD s c) = back s n c := by
  show back s n (frmD s (toD s c)) = _
  rw [frmD_toD]

/-- The block of direction `s` that device `c` holds after `n` hops. -/
abbrev blk (X : Start F) (s : Bool) (n : ℕ) (c : Dev nD) : S2x16x64x128.Idx → Elt F .f32 := X s (back s n c)

/-- Memref `M` of device `c` holds `x`, at share `q`. -/
abbrev holds (c : Dev nD) (M : Memref sig .tc .vmem S2x16x64x128 .f32) (q : PosShare TreeShare) (x : S2x16x64x128.Idx → Elt F .f32) : sProp 𝕄 :=
  owns (Ix := Unit) (Name := ℕ) (U := UU) (Lvl := ℕ) (c : Thread nD τ) M q x

/-! ## The schedule -/

/-- What the neighbour a device sends to in direction `s` hands it at the barrier: its three landing slots, and that
    their receive cells are at round 0. -/
def barPay (s : Bool) (d : Dev nD) : sProp 𝕄 :=
  bigSep Finset.univ fun h : Fin 3 => iprop((∃ x, holds (toD s d) (slotM s h.succ) fullShare x) ∗ reached ER (xc s true h (toD s d)) 0)

/-- What a completed copy leaves on a cell: on the receiving end the slot filled, on the sending end the lent half share
    of the source. -/
def xpay (X : Start F) (s v : Bool) (h : Fin 3) (d : Dev nD) : sProp 𝕄 :=
  if v then holds d (slotM s h.succ) fullShare (blk X s (h.val + 1) d) else holds d (srcM s h) fullShare.left (blk X s h.val d)

/-- The index of a semaphore of the exchange. -/
def xiS (q : DmaSem sig) : Bool := decide (q.val < 10)
def xiV (q : DmaSem sig) : Bool := decide (3 ≤ (q.val - 4) % 6)
def xiH (q : DmaSem sig) : Fin 3 := ⟨(q.val - 4) % 3, Nat.mod_lt _ (by decide)⟩

theorem xiS_dq (s v : Bool) (h : Fin 3) : xiS (dq s v h) = s := by revert s v h; decide
theorem xiV_dq (s v : Bool) (h : Fin 3) : xiV (dq s v h) = v := by revert s v h; decide
theorem xiH_dq (s v : Bool) (h : Fin 3) : xiH (dq s v h) = h := by revert s v h; decide
theorem dq_ge (s v : Bool) (h : Fin 3) : 4 ≤ (dq s v h).val := by revert s v h; decide

def duty : SemLoc sig → Finset Bool
  | .reg _ => Finset.univ
  | .dma q => if 4 ≤ q.val then {false} else ∅

def sched (X : Start F) : Rounds.Schedule (GSem nD τ sig) Bool 𝕄 where
  duties g r := if r = 0 ∧ g.1.2 = .tc then duty g.2 else ∅
  unitless _ := False
  amount g _ _ := match g.2 with | .reg _ => 1 | .dma _ => N
  payload g _ d := match g.2 with
    | .reg _ => barPay d g.1.1
    | .dma q => xpay X (xiS q) (xiV q) (xiH q) g.1.1
  amount_pos g _ _ _ := by
    rcases g with ⟨t, sm⟩
    cases sm
    · exact Nat.one_pos
    · exact N_pos

instance sched_storable (X : Start F) (g : GSem nD τ sig) (r : ℕ) (d : Bool) :
    BI.Storable (upEmb : UEmb _ 𝕄) ((sched X).payload g r d) := by
  rcases g with ⟨t, sm⟩
  cases sm
  · show BI.Storable upEmb (barPay d t.1)
    unfold barPay holds owns
    infer_instance
  · rename_i q
    show BI.Storable upEmb (xpay X (xiS q) (xiV q) (xiH q) t.1)
    unfold xpay holds owns
    split <;> infer_instance

section Sched
variable (X : Start F) (c : Dev nD)

theorem duties_bar : (sched X).duties (bar c) 0 = Finset.univ := by
  dsimp only [sched]; rw [if_pos ⟨rfl, rfl⟩]; rfl
theorem duties_x (s v : Bool) (h : Fin 3) : (sched X).duties (xc s v h c) 0 = {false} := by
  dsimp only [sched]; rw [if_pos ⟨rfl, rfl⟩]; dsimp only [duty]; exact if_pos (dq_ge s v h)
theorem duties_later (g : GSem nD τ sig) : ∀ r, 1 ≤ r → (sched X).duties g r = ∅ :=
  fun r hr => by dsimp only [sched]; rw [if_neg fun h => by omega]

theorem amount_bar (d : Bool) : (sched X).amount (bar c) 0 d = 1 := rfl
theorem amount_x (s v : Bool) (h : Fin 3) (d : Bool) : (sched X).amount (xc s v h c) 0 d = N := rfl

theorem expect_bar : (sched X).expect (bar c) 0 = 2 := by
  unfold Schedule.expect Schedule.amountOf
  rw [duties_bar, Finset.sum_congr rfl fun d _ => amount_bar X c d, Finset.sum_const, Finset.card_univ, Fintype.card_bool, smul_eq_mul]
theorem expect_x (s v : Bool) (h : Fin 3) : (sched X).expect (xc s v h c) 0 = N := by
  unfold Schedule.expect Schedule.amountOf; rw [duties_x, Finset.sum_singleton, amount_x]

theorem payload_bar (d : Bool) : (sched X).payload (bar c) 0 d = barPay d c := rfl
theorem payload_x (s v : Bool) (h : Fin 3) (d : Bool) : (sched X).payload (xc s v h c) 0 d = xpay X s v h c := by
  show xpay X (xiS (dq s v h)) (xiV (dq s v h)) (xiH (dq s v h)) c = _
  rw [xiS_dq, xiV_dq, xiH_dq]

theorem rest_bar : bigSep ((sched X).duties (bar c) 0 \ ∅) (fun d => (sched X).payload (bar c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_x (s v : Bool) (h : Fin 3) :
    bigSep ((sched X).duties (xc s v h c) 0 \ ∅) (fun d => (sched X).payload (xc s v h c) 0 d) = xpay X s v h c := by
  rw [Finset.sdiff_empty, duties_x, bigSep_singleton, payload_x]

end Sched

/-! ## What each device owes; the levels -/

/-- The receive cell the send with `n` sends after it pays: rightwards before leftwards, hop after hop. -/
def item (c : Dev nD) (n : ℕ) : GSem nD τ sig :=
  xc (decide (n % 2 = 1)) true ⟨(2 - n / 2) % 3, Nat.mod_lt _ (by decide)⟩ (toD (decide (n % 2 = 1)) c)

/-- The debt with `n` sends still to come. -/
def owedX (c : Dev nD) : ℕ → CellTallies nD τ sig Unit
  | 0 => 0
  | n + 1 => owedX c n + tallyAt (item c n) () N
/-- Between the two signals, and before both. -/
def owed1 (c : Dev nD) : CellTallies nD τ sig Unit := owedX c 6 + tallyAt (bar (frmD false c)) () 1
def owed0 (c : Dev nD) : CellTallies nD τ sig Unit := owed1 c + tallyAt (bar (frmD true c)) () 1

def L (g : GSem nD τ sig) : Finset Unit := if g.1.2 = .tc then {()} else ∅
def lvS : SemLoc sig → ℕ
  | .reg _ => 1
  | .dma q => if 4 ≤ q.val then (if xiV q then 2 + (xiH q).val else 0) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_x (s v : Bool) (h : Fin 3) : lvS (.dma (dq s v h)) = if v then 2 + h.val else 0 := by revert s v h; decide

theorem item_lv (c : Dev nD) (n : ℕ) (hn : n < 6) : lv (item c n) () = 4 - n / 2 := by
  show lvS (.dma (dq _ true _)) = _
  rw [lvS_x, if_pos rfl]
  show 2 + (2 - n / 2) % 3 = _
  omega

theorem owedX_pos {c : Dev nD} {n : ℕ} {g : GSem nD τ sig} {u : Unit} (h : 0 < owedX c n g u) : ∃ j < n, g = item c j := by
  induction n with
  | zero => exact absurd h (Nat.lt_irrefl 0)
  | succ n ih =>
    unfold owedX at h
    rw [Pi.add_apply, Finsupp.add_apply, tallyAt_apply] at h
    by_cases hg : g = item c n ∧ u = ()
    · exact ⟨n, Nat.lt_succ_self n, hg.1⟩
    · rw [if_neg hg, Nat.add_zero] at h
      obtain ⟨j, hj, e⟩ := ih h
      exact ⟨j, Nat.lt_succ_of_lt hj, e⟩

theorem owed0_pos {c : Dev nD} {g : GSem nD τ sig} {u : Unit} (h : 0 < owed0 c g u) :
    (∃ j < 6, g = item c j) ∨ ∃ s, g = bar (frmD s c) := by
  unfold owed0 owed1 at h
  rw [Pi.add_apply, Finsupp.add_apply, Pi.add_apply, Finsupp.add_apply, tallyAt_apply, tallyAt_apply] at h
  by_cases h1 : g = bar (frmD true c) ∧ u = ()
  · exact .inr ⟨true, h1.1⟩
  by_cases h2 : g = bar (frmD false c) ∧ u = ()
  · exact .inr ⟨false, h2.1⟩
  rw [if_neg h1, if_neg h2] at h
  simp only [Nat.add_zero] at h
  exact .inl (owedX_pos h)

theorem mem_item (c : Dev nD) (j : ℕ) (u : Unit) : u ∈ L (item c j) := by
  unfold item; rw [L_tc]; exact Finset.mem_singleton_self _
theorem mem_bar (c : Dev nD) (u : Unit) : u ∈ L (bar c) := by rw [L_tc]; exact Finset.mem_singleton_self _

/-- A device may wait on a cell below everything the `n` sends to come will raise. -/
theorem mayWait_x (c : Dev nD) (sm : SemLoc sig) (n : ℕ) (hn : n ≤ 6) (h : ∀ j < n, lvS sm < 4 - j / 2) :
    (levAts L lv : sProp 𝕄) ⊢ MayWait (c : Thread nD τ) sm () (owedX c n) :=
  MayOwe.of_cut (L := L) (lev := lv) (lvS sm) (fun p hp => by rw [Finset.mem_singleton.mp hp, L_tc]; exact Finset.mem_singleton_self _)
    (fun g u hg => by obtain ⟨j, hj, rfl⟩ := owedX_pos hg; exact mem_item c j u)
    (fun p hp => by rw [Finset.mem_singleton.mp hp]; exact Nat.le_refl _)
    (fun g u hg => by
      obtain ⟨j, hj, rfl⟩ := owedX_pos hg
      have := item_lv c j (by omega)
      cases u
      rw [this]; exact h j hj)

/-! ## The ghost state -/

theorem elem_at {I : Type} [DecidableEq I] {s : Finset I} {i : I} {Φ : I → sProp 𝕄} (h : i ∈ s) : (bigSep s Φ : sProp 𝕄) ⊢ Φ i :=
  bigSep_elim h

/-- Every cell's invariant at the name it was allocated, and that every barrier cell is at round 0. -/
def records (X : Start F) (K : GSem nD τ sig → ℕ) : sProp 𝕄 :=
  iprop((bigSep Finset.univ fun c : Dev nD => cellInv ER (sched X) (K (bar c)) (bar c))
    ∗ (bigSep Finset.univ fun ci : Dev nD × XI => cellInv ER (sched X) (K (xc ci.2.1 ci.2.2.1 ci.2.2.2 ci.1)) (xc ci.2.1 ci.2.2.1 ci.2.2.2 ci.1))
    ∗ bigSep Finset.univ fun c : Dev nD => reached ER (bar c) 0)

instance records_persistent (X : Start F) (K : GSem nD τ sig → ℕ) : BI.Persistent (records X K) := by unfold records; infer_instance

theorem inv_bar (X : Start F) (K : GSem nD τ sig → ℕ) (c : Dev nD) : records X K ⊢ cellInv ER (sched X) (K (bar c)) (bar c) := by
  unfold records
  iintro ⟨#H, -, -⟩
  iapply (elem_at (Φ := fun c : Dev nD => (cellInv ER (sched X) (K (bar c)) (bar c) : sProp 𝕄)) (Finset.mem_univ c)); iexact H
theorem inv_x (X : Start F) (K : GSem nD τ sig → ℕ) (s v : Bool) (h : Fin 3) (c : Dev nD) :
    records X K ⊢ cellInv ER (sched X) (K (xc s v h c)) (xc s v h c) := by
  unfold records
  iintro ⟨-, #H, -⟩
  iapply (elem_at (Φ := fun ci : Dev nD × XI => (cellInv ER (sched X) (K (xc ci.2.1 ci.2.2.1 ci.2.2.2 ci.1)) (xc ci.2.1 ci.2.2.1 ci.2.2.2 ci.1) : sProp 𝕄))
    (Finset.mem_univ (c, s, v, h))); iexact H
theorem reached_bar (X : Start F) (K : GSem nD τ sig → ℕ) (c : Dev nD) : records X K ⊢ reached ER (bar c) 0 := by
  unfold records
  iintro ⟨-, -, #H⟩
  iapply (elem_at (Φ := fun c : Dev nD => (reached ER (bar c) 0 : sProp 𝕄)) (Finset.mem_univ c)); iexact H

/-- The tokens a device pays one hop's copy of one direction with: the receive duty at the neighbour, its own send duty. -/
def hopToks (s : Bool) (h : Fin 3) (c : Dev nD) : sProp 𝕄 :=
  iprop(dutyTok ER (xc s false h c) 0 false ∗ dutyTok ER (xc s true h (toD s c)) 0 false)

/-- The tokens of all the duties a device pays. -/
def payToks (c : Dev nD) : sProp 𝕄 :=
  iprop((dutyTok ER (bar (frmD true c)) 0 true ∗ dutyTok ER (bar (frmD false c)) 0 false)
    ∗ bigSep Finset.univ fun sh : Bool × Fin 3 => hopToks sh.1 sh.2 c)

/-- What a device carries from launch to the region: its position on the barrier cell, the right to open its DMA
    cells, its tokens. -/
def linear (c : Dev nD) : sProp 𝕄 :=
  iprop(atPos ER (bar c) 0 ∅ 0 ∗ (bigSep Finset.univ fun i : XI => openTok ER (xc i.1 i.2.1 i.2.2 c)) ∗ payToks c)

def opened (c : Dev nD) : sProp 𝕄 :=
  iprop(atPos ER (bar c) 0 ∅ 0
    ∗ (bigSep Finset.univ fun i : XI => iprop(atPos ER (xc i.1 i.2.1 i.2.2 c) 0 ∅ 0 ∗ reached ER (xc i.1 i.2.1 i.2.2 c) 0)) ∗ payToks c)

/-- The credits a device waits with: both units of its barrier cell, each of its receive cells. -/
def credits (c : Dev nD) : sProp 𝕄 :=
  iprop(cred (tallyAt (bar c) () 2) ∗ bigSep Finset.univ fun sh : Bool × Fin 3 => cred (tallyAt (xc sh.1 true sh.2 c) () N))

theorem open_cells (X : Start F) (K : GSem nD τ sig → ℕ) (c : Dev nD) :
    iprop(records X K ∗ linear c ∗ bigSep Finset.univ fun i : XI => semVal (xc i.1 i.2.1 i.2.2 c) 0) ⊢ (|={Set.univ}=> opened c : sProp 𝕄) := by
  unfold linear opened
  iintro ⟨#HR, ⟨HaB, Ho, Ht⟩, Hv⟩
  ihave Hov := (Smoke.bigSep_pair (Φ := fun i : XI => (openTok ER (xc i.1 i.2.1 i.2.2 c) : sProp 𝕄)) (Ψ := fun i : XI => (semVal (xc i.1 i.2.1 i.2.2 c) 0 : sProp 𝕄))) $$ [Ho Hv]
  · isplitl [Ho] <;> iassumption
  ihave Hf := (bigSep_with_persistent (S := Finset.univ) (R := records X K)
    (Φ := fun i : XI => (iprop(openTok ER (xc i.1 i.2.1 i.2.2 c) ∗ semVal (xc i.1 i.2.1 i.2.2 c) 0) : sProp 𝕄))
    (Ψ := fun i : XI => (iprop(|={Set.univ}=> (atPos ER (xc i.1 i.2.1 i.2.2 c) 0 ∅ 0 ∗ reached ER (xc i.1 i.2.1 i.2.2 c) 0)) : sProp 𝕄)) fun i _ => by
      iintro ⟨#HR, Ho, Hv⟩
      iapply (Rounds.cell_open ER (sched X) (Set.mem_univ (K (xc i.1 i.2.1 i.2.2 c))))
      isplitr; · iapply (inv_x X K i.1 i.2.1 i.2.2 c); iexact HR
      isplitl [Ho] <;> iassumption) $$ [Hov]
  · isplitr; · iexact HR
    iexact Hov
  imod (bigSep_fupd _ _) $$ Hf with Hat
  imodintro
  isplitl [HaB]; · iexact HaB
  isplitl [Hat] <;> iassumption

/-- Every cell past its one round gives its counter back, at zero. -/
theorem close_cells (X : Start F) (K : GSem nD τ sig → ℕ) (c : Dev nD) :
    iprop(records X K ∗ bigSep Finset.univ fun i : XI => atPos ER (xc i.1 i.2.1 i.2.2 c) (0 + 1) ∅ 0)
      ⊢ (|={Set.univ}=> bigSep Finset.univ fun i : XI => semVal (xc i.1 i.2.1 i.2.2 c) 0 : sProp 𝕄) := by
  refine (bigSep_with_persistent (S := Finset.univ) (R := records X K)
    (Φ := fun i : XI => (atPos ER (xc i.1 i.2.1 i.2.2 c) (0 + 1) ∅ 0 : sProp 𝕄))
    (Ψ := fun i : XI => (iprop(|={Set.univ}=> semVal (xc i.1 i.2.1 i.2.2 c) 0) : sProp 𝕄)) fun i _ => ?_).trans (bigSep_fupd _ _)
  iintro ⟨#HR, Ha⟩
  iapply (Rounds.cell_close ER (sched X) (Set.mem_univ (K (xc i.1 i.2.1 i.2.2 c))) id (duties_later X _))
  isplitr; · iapply (inv_x X K i.1 i.2.1 i.2.2 c); iexact HR
  iexact Ha

theorem close_bar (X : Start F) (K : GSem nD τ sig → ℕ) (c : Dev nD) :
    iprop(records X K ∗ atPos ER (bar c) (0 + 1) ∅ 0) ⊢ (|={Set.univ}=> semVal (bar c) 0 : sProp 𝕄) := by
  iintro ⟨#HR, Ha⟩
  iapply (Rounds.cell_close ER (sched X) (Set.mem_univ (K (bar c))) id (duties_later X _))
  isplitr; · iapply (inv_bar X K c); iexact HR
  iexact Ha

end Cert.Ring

end
-- ==== Proof.Slots.lean ====
/-
# The slots of the landing buffers

A landing buffer is four slots, each holding one block of keys and values. The whole buffer held is
its four slots held; a slot held is the buffer held on the slot's rectangle, at the block read behind
the slot's coordinate.
-/
module

public import proofs.«01_k».proof.Proof.Common

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- An index of a landing buffer without its slot. -/
def tailIx (i : S4x2x16x64x128.Idx) : S2x16x64x128.Idx := fun a => i a.succ

/-- The contents of a landing buffer whose slot `j` holds `x j`. -/
def canon (x : Fin 4 → S2x16x64x128.Idx → Elt F .f32) : S4x2x16x64x128.Idx → Elt F .f32 := fun i => x (i 0) (tailIx i)

/-- The landing buffer of direction `s` held at device `c`, on the elements `J`. -/
def bufOn (s : Bool) (c : Dev nD) (J : Finset S4x2x16x64x128.Idx) (q : PosShare TreeShare) (f : S4x2x16x64x128.Idx → Elt F .f32) : sProp 𝕄 :=
  match s with
  | true => ((c : Thread nD τ).loc cc0_scratch0) ↦[J]{q} f
  | false => ((c : Thread nD τ).loc cc0_scratch1) ↦[J]{q} f

/-- The element of a landing buffer behind slot `j` at `y`. -/
def slotAt (j : Fin 4) (y : S2x16x64x128.Idx) : S4x2x16x64x128.Idx := (slotR j).emb (Fin.cons ⟨0, Nat.one_pos⟩ y)

theorem emb_true (j : Fin 4) (y : S2x16x64x128.Idx) : (slotM true j).view.emb y = slotAt j y := by
  show (slotR j).emb (Shape.reshapeEquiv _ y) = _
  exact congrArg (slotR j).emb (Shape.reshapeEquiv_cons_one _ y)
theorem emb_false (j : Fin 4) (y : S2x16x64x128.Idx) : (slotM false j).view.emb y = slotAt j y := by
  show (slotR j).emb (Shape.reshapeEquiv _ y) = _
  exact congrArg (slotR j).emb (Shape.reshapeEquiv_cons_one _ y)

theorem slotAt_zero (j : Fin 4) (y : S2x16x64x128.Idx) : slotAt j y 0 = j := by
  refine Fin.ext ?_
  show j.val + 1 * 0 = j.val
  omega
theorem tail_slotAt (j : Fin 4) (y : S2x16x64x128.Idx) : tailIx (slotAt j y) = y := by
  funext a
  refine Fin.ext ?_
  show (![j.val, 0, 0, 0, 0] : Fin 5 → Nat) a.succ + 1 * (y a).val = (y a).val
  have h : (![j.val, 0, 0, 0, 0] : Fin 5 → Nat) a.succ = 0 := by fin_cases a <;> rfl
  rw [h]; omega

theorem mem_slotR (j : Fin 4) (i : S4x2x16x64x128.Idx) : i ∈ (slotR j).set ↔ i 0 = j := by
  rw [Rect.mem_set_unit]
  constructor
  · intro h
    have := h 0
    refine Fin.ext ?_
    simp at this
    omega
  · rintro h a
    refine Fin.cases ?_ (fun b => ?_) a
    · rw [h]; simp
    · have h0 : (![j.val, 0, 0, 0, 0] : Fin 5 → Nat) b.succ = 0 := by fin_cases b <;> rfl
      have h1 : S1x2x16x64x128.size b.succ = S4x2x16x64x128.size b.succ := by fin_cases b <;> rfl
      rw [h0, h1]
      exact ⟨Nat.zero_le _, by have := (i b.succ).isLt; omega⟩

theorem set_true (j : Fin 4) : (slotM true j).view.set = (slotR j).set :=
  (View.set_reshape _ _).trans (View.set_slice_whole cc0_scratch0 (slotR j))
theorem set_false (j : Fin 4) : (slotM false j).view.set = (slotR j).set :=
  (View.set_reshape _ _).trans (View.set_slice_whole cc0_scratch1 (slotR j))

theorem slotAt_tail (i : S4x2x16x64x128.Idx) : slotAt (i 0) (tailIx i) = i := by
  funext a
  refine Fin.cases ?_ (fun b => ?_) a
  · exact slotAt_zero _ _
  · exact congrFun (tail_slotAt (i 0) (tailIx i)) b

theorem canon_slotAt (j : Fin 4) (x : Fin 4 → S2x16x64x128.Idx → Elt F .f32) (y : S2x16x64x128.Idx) :
    canon x (slotAt j y) = x j y := by
  unfold canon
  rw [slotAt_zero, tail_slotAt]

theorem slot_agree (j : Fin 4) (x : Fin 4 → S2x16x64x128.Idx → Elt F .f32) (f : S4x2x16x64x128.Idx → Elt F .f32)
    (h : ∀ y, f (slotAt j y) = x j y) : ∀ i ∈ (slotR j).set, f i = canon x i := by
  intro i hi
  have hi0 := (mem_slotR j i).mp hi
  rw [← slotAt_tail i, hi0, h, canon_slotAt]

/-- A slot that holds a block is the buffer held on the slot, at the block. -/
theorem holds_slot (s : Bool) (c : Dev nD) (j : Fin 4) (q : PosShare TreeShare) (x : Fin 4 → S2x16x64x128.Idx → Elt F .f32) :
    (holds c (slotM s j) q (x j) : sProp 𝕄) = bufOn s c (slotR j).set q (canon x) := by
  cases s
  · have h1 : (holds c (slotM false j) q (x j) : sProp 𝕄) ⊢ bufOn false c (slotR j).set q (canon x) := by
      unfold holds owns
      rw [set_false]
      iintro ⟨%f, %hf, H⟩
      have e := slot_agree j x f (fun y => by
        have := congrFun hf y
        rw [View.read_apply, emb_false] at this
        exact this)
      have e' := pointsTo_congr (Ix := Unit) (Name := ℕ) (U := UU) (Lvl := ℕ) (q := q) (ℓ := (c : Thread nD τ).loc cc0_scratch1) e
      unfold bufOn
      iapply (Entails.of_eq e')
      iexact H
    have h2 : (bufOn false c (slotR j).set q (canon x) : sProp 𝕄) ⊢ holds c (slotM false j) q (x j) := by
      unfold holds owns bufOn
      rw [set_false]
      iintro H
      iexists (canon x)
      isplitr
      · ipureintro
        funext y
        rw [View.read_apply, emb_false]
        exact canon_slotAt j x y
      · iexact H
    exact BI.equiv_iff.mp ⟨h1, h2⟩
  · have h1 : (holds c (slotM true j) q (x j) : sProp 𝕄) ⊢ bufOn true c (slotR j).set q (canon x) := by
      unfold holds owns
      rw [set_true]
      iintro ⟨%f, %hf, H⟩
      have e := slot_agree j x f (fun y => by
        have := congrFun hf y
        rw [View.read_apply, emb_true] at this
        exact this)
      have e' := pointsTo_congr (Ix := Unit) (Name := ℕ) (U := UU) (Lvl := ℕ) (q := q) (ℓ := (c : Thread nD τ).loc cc0_scratch0) e
      unfold bufOn
      iapply (Entails.of_eq e')
      iexact H
    have h2 : (bufOn true c (slotR j).set q (canon x) : sProp 𝕄) ⊢ holds c (slotM true j) q (x j) := by
      unfold holds owns bufOn
      rw [set_true]
      iintro H
      iexists (canon x)
      isplitr
      · ipureintro
        funext y
        rw [View.read_apply, emb_true]
        exact canon_slotAt j x y
      · iexact H
    exact BI.equiv_iff.mp ⟨h1, h2⟩

theorem slots_cover : (Finset.univ : Finset (Fin 4)).biUnion (fun j => (slotR j).set) = Finset.univ := by
  ext i
  simp only [Finset.mem_biUnion, Finset.mem_univ, true_and, mem_slotR, iff_true]
  exact ⟨_, rfl⟩

theorem slots_apart : ∀ j ∈ (Finset.univ : Finset (Fin 4)), ∀ j' ∈ (Finset.univ : Finset (Fin 4)), j ≠ j' → Disjoint (slotR j).set (slotR j').set := by
  intro j _ j' _ hne
  rw [Finset.disjoint_left]
  intro i h h'
  exact hne (((mem_slotR j i).mp h).symm.trans ((mem_slotR j' i).mp h'))

/-- The whole landing buffer is its four slots. -/
theorem holds_slots (s : Bool) (c : Dev nD) (q : PosShare TreeShare) (x : Fin 4 → S2x16x64x128.Idx → Elt F .f32) :
    (bufOn s c Finset.univ q (canon x) : sProp 𝕄) = bigSep Finset.univ fun j : Fin 4 => holds c (slotM s j) q (x j) := by
  rw [bigSep_congr fun j _ => holds_slot s c j q x, ← slots_cover]
  cases s
  · exact pointsTo_biUnion _ _ slots_apart
  · exact pointsTo_biUnion _ _ slots_apart

theorem canon_self (f : S4x2x16x64x128.Idx → Elt F .f32) : canon (fun j y => f (slotAt j y)) = f := by
  funext i
  exact congrArg f (slotAt_tail i)

theorem four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem two (Φ : Bool → sProp 𝕄) : bigSep Finset.univ Φ = iprop(Φ true ∗ Φ false) := by
  rw [bigSep_univ_eq_bigSepL [true, false] (by decide) (by decide), bigSepL_cons_cons, bigSepL_singleton]
  rfl

theorem six (Φ : Bool × Fin 3 → sProp 𝕄) :
    bigSep Finset.univ Φ = iprop((Φ (true, 0) ∗ Φ (true, 1) ∗ Φ (true, 2)) ∗ Φ (false, 0) ∗ Φ (false, 1) ∗ Φ (false, 2)) := by
  rw [bigSep_univ_prod, two, three, three]

/-- The exchange's cells of one device, one by one: the send cells of both directions, then the receive cells. -/
theorem twelve (Φ : XI → sProp 𝕄) :
    bigSep Finset.univ Φ = iprop(((Φ (true, true, 0) ∗ Φ (true, true, 1) ∗ Φ (true, true, 2)) ∗ Φ (true, false, 0) ∗ Φ (true, false, 1) ∗ Φ (true, false, 2))
      ∗ (Φ (false, true, 0) ∗ Φ (false, true, 1) ∗ Φ (false, true, 2)) ∗ Φ (false, false, 0) ∗ Φ (false, false, 1) ∗ Φ (false, false, 2)) := by
  rw [bigSep_univ_prod, two, six, six]

/-- The landing buffer held on slot `j`, as loads through the whole buffer find it. -/
abbrev slotPtsT (c : Dev nD) (j : Fin 4) (q : PosShare TreeShare) (x : S2x16x64x128.Idx → Elt F .f32) : sProp 𝕄 :=
  ((Memref.whole cc0_scratch0 : Memref sig .tc _ _ _).view.loc (c : Thread nD τ) ↦[(Memref.whole cc0_scratch0 : Memref sig .tc _ _ _).view.setOn (slotR j).set]{q} canon (fun _ => x))
abbrev slotPtsF (c : Dev nD) (j : Fin 4) (q : PosShare TreeShare) (x : S2x16x64x128.Idx → Elt F .f32) : sProp 𝕄 :=
  ((Memref.whole cc0_scratch1 : Memref sig .tc _ _ _).view.loc (c : Thread nD τ) ↦[(Memref.whole cc0_scratch1 : Memref sig .tc _ _ _).view.setOn (slotR j).set]{q} canon (fun _ => x))

theorem holds_true (c : Dev nD) (j : Fin 4) (q : PosShare TreeShare) (x : S2x16x64x128.Idx → Elt F .f32) :
    (holds c (slotM true j) q x : sProp 𝕄) = slotPtsT c j q x := by
  refine (holds_slot true c j q (fun _ => x)).trans ?_
  have e : (Memref.whole cc0_scratch0 : Memref sig .tc _ _ _).view.setOn (slotR j).set = (slotR j).set := Finset.map_refl
  unfold slotPtsT
  rw [e]
  rfl
theorem holds_false (c : Dev nD) (j : Fin 4) (q : PosShare TreeShare) (x : S2x16x64x128.Idx → Elt F .f32) :
    (holds c (slotM false j) q x : sProp 𝕄) = slotPtsF c j q x := by
  refine (holds_slot false c j q (fun _ => x)).trans ?_
  have e : (Memref.whole cc0_scratch1 : Memref sig .tc _ _ _).view.setOn (slotR j).set = (slotR j).set := Finset.map_refl
  unfold slotPtsF
  rw [e]
  rfl

theorem pts_halves (l : Loc nD τ sig) (I) (f : Buf (Elt F) l) :
    ((l ↦[I]{fullShare} f) : sProp 𝕄) = iprop((l ↦[I]{fullShare.left} f) ∗ (l ↦[I]{fullShare.right} f)) :=
  have h := pointsTo_share (Ix := Unit) (Name := ℕ) (U := UU) (Lvl := ℕ) (I := I) (f := f) (PosShare.mem_left_op_right fullShare)
  BI.equiv_iff.mp ⟨h.1, h.2⟩

/-- A filled slot lent to the next copy by half, the other half kept for the loads; and back. -/
theorem lend_true (c : Dev nD) (j : Fin 4) (x : S2x16x64x128.Idx → Elt F .f32) :
    (holds c (slotM true j) fullShare x : sProp 𝕄) = iprop(holds c (slotM true j) fullShare.left x ∗ slotPtsT c j fullShare.right x) := by
  rw [holds_true, holds_true]
  exact pts_halves _ _ _
theorem lend_false (c : Dev nD) (j : Fin 4) (x : S2x16x64x128.Idx → Elt F .f32) :
    (holds c (slotM false j) fullShare x : sProp 𝕄) = iprop(holds c (slotM false j) fullShare.left x ∗ slotPtsF c j fullShare.right x) := by
  rw [holds_false, holds_false]
  exact pts_halves _ _ _

/-- A staging buffer held whole. -/
abbrev stgPts (c : Dev nD) (b : Ref sig .tc) (q : PosShare TreeShare) (x : b.ty.Contents (Elt F)) : sProp 𝕄 :=
  ((Memref.whole b : Memref sig .tc _ _ _).view.loc (c : Thread nD τ) ↦[Finset.univ]{q} x)

theorem owns_whole_pts (c : Dev nD) (b : Ref sig .tc) (q : PosShare TreeShare) (x : b.ty.Contents (Elt F)) :
    (owns (Ix := Unit) (Name := ℕ) (U := UU) (Lvl := ℕ) (c : Thread nD τ) (Memref.whole b) q x : sProp 𝕄) = stgPts c b q x := by
  unfold owns
  simp only [Memref.view_whole, View.read_whole, View.set_whole]
  have h1 : (iprop(∃ f : Buf (Elt F) ((c : Thread nD τ).loc b), ⌜f = x⌝ ∗ (((c : Thread nD τ).loc b) ↦{q} f)) : sProp 𝕄) ⊢ stgPts c b q x := by
    iintro ⟨%f, %h, H⟩
    subst h
    iexact H
  have h2 : (stgPts c b q x : sProp 𝕄) ⊢ iprop(∃ f : Buf (Elt F) ((c : Thread nD τ).loc b), ⌜f = x⌝ ∗ (((c : Thread nD τ).loc b) ↦{q} f)) := by
    iintro H
    iexists x
    isplitr; · ipureintro; rfl
    iexact H
  exact BI.equiv_iff.mp ⟨h1, h2⟩

/-- An operand lent to the first copy by half. -/
theorem lend_op1 (c : Dev nD) (x : S2x16x64x128.Idx → Elt F .f32) :
    (stgPts c cc0_stg1_0 fullShare x : sProp 𝕄) = iprop(holds c (opM true) fullShare.left x ∗ stgPts c cc0_stg1_0 fullShare.right x) :=
  (pts_halves _ _ _).trans
    (congrArg (fun P : sProp 𝕄 => iprop(P ∗ stgPts c cc0_stg1_0 fullShare.right x)) (owns_whole_pts c cc0_stg1_0 fullShare.left x).symm)
theorem lend_op2 (c : Dev nD) (x : S2x16x64x128.Idx → Elt F .f32) :
    (stgPts c cc0_stg2_0 fullShare x : sProp 𝕄) = iprop(holds c (opM false) fullShare.left x ∗ stgPts c cc0_stg2_0 fullShare.right x) :=
  (pts_halves _ _ _).trans
    (congrArg (fun P : sProp 𝕄 => iprop(P ∗ stgPts c cc0_stg2_0 fullShare.right x)) (owns_whole_pts c cc0_stg2_0 fullShare.left x).symm)

/-- The cell of one device by direction, end and hop, at the start and past its round. -/
def at0 (s v : Bool) (h : Fin 3) (c : Dev nD) : sProp 𝕄 := iprop(atPos ER (xc s v h c) 0 ∅ 0 ∗ reached ER (xc s v h c) 0)
def at1 (s v : Bool) (h : Fin 3) (c : Dev nD) : sProp 𝕄 := atPos ER (xc s v h c) (0 + 1) ∅ 0

theorem opened_eq (c : Dev nD) : (opened c : sProp 𝕄) = iprop(atPos ER (bar c) 0 ∅ 0
    ∗ (((at0 true true 0 c ∗ at0 true true 1 c ∗ at0 true true 2 c) ∗ at0 true false 0 c ∗ at0 true false 1 c ∗ at0 true false 2 c)
      ∗ (at0 false true 0 c ∗ at0 false true 1 c ∗ at0 false true 2 c) ∗ at0 false false 0 c ∗ at0 false false 1 c ∗ at0 false false 2 c)
    ∗ (dutyTok ER (bar (frmD true c)) 0 true ∗ dutyTok ER (bar (frmD false c)) 0 false)
    ∗ (hopToks true 0 c ∗ hopToks true 1 c ∗ hopToks true 2 c) ∗ hopToks false 0 c ∗ hopToks false 1 c ∗ hopToks false 2 c) := by
  unfold opened payToks
  rw [twelve, six]
  rfl

theorem past_eq (c : Dev nD) : (bigSep Finset.univ fun i : XI => (atPos ER (xc i.1 i.2.1 i.2.2 c) (0 + 1) ∅ 0 : sProp 𝕄)) = iprop(
    ((at1 true true 0 c ∗ at1 true true 1 c ∗ at1 true true 2 c) ∗ at1 true false 0 c ∗ at1 true false 1 c ∗ at1 true false 2 c)
      ∗ (at1 false true 0 c ∗ at1 false true 1 c ∗ at1 false true 2 c) ∗ at1 false false 0 c ∗ at1 false false 1 c ∗ at1 false false 2 c) := by
  rw [twelve]
  rfl

/-- The credit of one receive cell. -/
def crd (s : Bool) (h : Fin 3) (c : Dev nD) : sProp 𝕄 := cred (tallyAt (xc s true h c) () N)

theorem credits_eq (c : Dev nD) : (credits c : sProp 𝕄) = iprop(cred (tallyAt (bar c) () 2)
    ∗ (crd true 0 c ∗ crd true 1 c ∗ crd true 2 c) ∗ crd false 0 c ∗ crd false 1 c ∗ crd false 2 c) := by
  unfold credits
  rw [six]
  rfl

/-- A landing slot of the neighbour in direction `s`, to copy into at hop `h`. -/
def room (s : Bool) (h : Fin 3) (c : Dev nD) : sProp 𝕄 :=
  iprop((∃ x, holds (toD s c) (slotM s h.succ) fullShare x) ∗ reached ER (xc s true h (toD s c)) 0)

theorem barPay_eq (s : Bool) (c : Dev nD) : (barPay s c : sProp 𝕄) = iprop(room s 0 c ∗ room s 1 c ∗ room s 2 c) := by
  unfold barPay
  rw [three]
  rfl

/-- An own landing slot given away. -/
def gift (s : Bool) (h : Fin 3) (c : Dev nD) : sProp 𝕄 :=
  iprop((∃ x, holds c (slotM s h.succ) fullShare x) ∗ reached ER (xc s true h c) 0)

/-- A landing buffer at any contents gives its four slots at some. -/
theorem split_slots (s : Bool) (c : Dev nD) (f : S4x2x16x64x128.Idx → Elt F .f32) :
    (bufOn s c Finset.univ fullShare f : sProp 𝕄)
      ⊢ iprop((∃ x, holds c (slotM s 0) fullShare x) ∗ (∃ x, holds c (slotM s 1) fullShare x) ∗ (∃ x, holds c (slotM s 2) fullShare x)
          ∗ (∃ x, holds c (slotM s 3) fullShare x)) := by
  rw [← canon_self f, holds_slots, four]
  iintro ⟨H0, H1, H2, H3⟩
  isplitl [H0]; · iexists _; iexact H0
  isplitl [H1]; · iexists _; iexact H1
  isplitl [H2]; · iexists _; iexact H2
  iexists _; iexact H3

/-- And back. -/
theorem join_slots (s : Bool) (c : Dev nD) (x0 x1 x2 x3 : S2x16x64x128.Idx → Elt F .f32) :
    (iprop(holds c (slotM s 0) fullShare x0 ∗ holds c (slotM s 1) fullShare x1 ∗ holds c (slotM s 2) fullShare x2 ∗ holds c (slotM s 3) fullShare x3) : sProp 𝕄)
      ⊢ iprop(∃ f, bufOn s c Finset.univ fullShare f) := by
  iintro H
  iexists (canon ![x0, x1, x2, x3])
  rw [holds_slots, four]
  iexact H

end Cert.Ring

end
-- ==== Proof.Tile.lean ====
/-
  What one device stores, head by head: the accumulated weighted values over the accumulated weights, the key blocks taken in
  the order the ring brings them (its own two halves, then those of one step away on either side, of two, of three).
-/
module

public import proofs.«01_k».proof.Proof.Slots
public import Idealize.ShloMosaic.Lib.WritesUnit

@[expose] public section

set_option maxRecDepth 16384

noncomputable section

namespace Cert.Ring

open Cert.KernelIdeal Cert.KernelIdeal.Gen

open Idealize.ShloMosaic
open Idealize.ShloMosaic.TcCoe
open Idealize.SL.Sem

variable {F : FTy → Type} [FloatOps F]

theorem inbQ (b : Fin 16) : ∀ a, (![b.val, 0, 0] : Fin 3 → ℕ) a + S1x256x64.size a ≤ S16x256x64.size a := by revert b; decide
theorem inbO (r : Fin 2) (b : Fin 16) : ∀ a, (![r.val, b.val, 0, 0] : Fin 4 → ℕ) a + S1x1x64x128.size a ≤ S2x16x64x128.size a := by
  revert r b; decide
theorem inbS (j : Fin 4) (r : Fin 2) (b : Fin 16) :
    ∀ a, (![j.val, r.val, b.val, 0, 0] : Fin 5 → ℕ) a + S1x1x1x64x128.size a ≤ S4x2x16x64x128.size a := by revert j r b; decide

/-- The queries of one head, as the body reads them. -/
def qRead (q0 : S16x256x64.Idx → Elt F .f32) (b : Fin 16) : FVec F S256x64 .f32 :=
  shapeCast S256x64 ((Memref.whole cc0_stg0_0 : Memref sig .tc _ _ _).view.readAt (Elt F) (Rect.unit (s := S16x256x64) ![b.val, 0, 0] S1x256x64.size (inbQ b)).toLoadRect q0)
    shapeCasts_S1x256x64_S256x64

/-- The keys (`r = 0`) or values (`r = 1`) of one head in an operand of the device's own, -/
def opReadT (x : S2x16x64x128.Idx → Elt F .f32) (r : Fin 2) (b : Fin 16) : FVec F S64x128 .f32 :=
  shapeCast S64x128 ((Memref.whole cc0_stg1_0 : Memref sig .tc _ _ _).view.readAt (Elt F) (Rect.unit (s := S2x16x64x128) ![r.val, b.val, 0, 0] S1x1x64x128.size (inbO r b)).toLoadRect x)
    shapeCasts_S1x1x64x128_S64x128
def opReadF (x : S2x16x64x128.Idx → Elt F .f32) (r : Fin 2) (b : Fin 16) : FVec F S64x128 .f32 :=
  shapeCast S64x128 ((Memref.whole cc0_stg2_0 : Memref sig .tc _ _ _).view.readAt (Elt F) (Rect.unit (s := S2x16x64x128) ![r.val, b.val, 0, 0] S1x1x64x128.size (inbO r b)).toLoadRect x)
    shapeCasts_S1x1x64x128_S64x128
/-- and in a landing slot. -/
def slotReadT (x : S2x16x64x128.Idx → Elt F .f32) (j : Fin 4) (r : Fin 2) (b : Fin 16) : FVec F S64x128 .f32 :=
  shapeCast S64x128 ((Memref.whole cc0_scratch0 : Memref sig .tc _ _ _).view.readAt (Elt F) (Rect.unit (s := S4x2x16x64x128) ![j.val, r.val, b.val, 0, 0] S1x1x1x64x128.size (inbS j r b)).toLoadRect (canon fun _ => x))
    shapeCasts_S1x1x1x64x128_S64x128
def slotReadF (x : S2x16x64x128.Idx → Elt F .f32) (j : Fin 4) (r : Fin 2) (b : Fin 16) : FVec F S64x128 .f32 :=
  shapeCast S64x128 ((Memref.whole cc0_scratch1 : Memref sig .tc _ _ _).view.readAt (Elt F) (Rect.unit (s := S4x2x16x64x128) ![j.val, r.val, b.val, 0, 0] S1x1x1x64x128.size (inbS j r b)).toLoadRect (canon fun _ => x))
    shapeCasts_S1x1x1x64x128_S64x128

/-- The weights of a block of keys, -/
def weigh (q : FVec F S256x64 .f32) (k : FVec F S64x128 .f32) : FVec F S256x128 .f32 :=
  exp (matmul dot_S256x64_S64x128_S256x128_1_0_0_1_n_n none q k (constant S256x128 .f32 0x00000000#32))
/-- the values summed under them, -/
def accStep (q : FVec F S256x64 .f32) (a : FVec F S256x64 .f32) (kv : FVec F S64x128 .f32 × FVec F S64x128 .f32) : FVec F S256x64 .f32 :=
  addf a (matmul dot_S256x128_S64x128_S256x64_1_1_0_0_n_n none (weigh q kv.1) kv.2 (constant S256x64 .f32 0x00000000#32))
/-- the weights summed. -/
def sumStep (q : FVec F S256x64 .f32) (l : FVec F S256x1 .f32) (kv : FVec F S64x128 .f32 × FVec F S64x128 .f32) : FVec F S256x1 .f32 :=
  addf l (shapeCast S256x1 (multiReduction .add [1] S256 (weigh q kv.1) 0x00000000#32 reduces_S256x128_S256 (.inl rfl) rfl) shapeCasts_S256_S256x1)

/-- One head's result from its queries and its key blocks in order. -/
def headOut (q : FVec F S256x64 .f32) (L : List (FVec F S64x128 .f32 × FVec F S64x128 .f32)) : FVec F S256x64 .f32 :=
  divf (L.foldl (accStep q) (broadcast S256x64 (Scalar.ofBits .f32 0x00000000#32)))
    (broadcastTo S256x64 (L.foldl (sumStep q) (broadcast S256x1 (Scalar.ofBits .f32 0x00000000#32))) broadcasts_S256x1_S256x64)

/-- The key blocks of one head in the order the body takes them. -/
def blocks (X : Start F) (c : Dev nD) (b : Fin 16) : List (FVec F S64x128 .f32 × FVec F S64x128 .f32) :=
  [(opReadT (X true c) 0 b, opReadT (X true c) 1 b), (opReadF (X false c) 0 b, opReadF (X false c) 1 b),
    (slotReadT (blk X true 1 c) 1 0 b, slotReadT (blk X true 1 c) 1 1 b), (slotReadF (blk X false 1 c) 1 0 b, slotReadF (blk X false 1 c) 1 1 b),
    (slotReadT (blk X true 2 c) 2 0 b, slotReadT (blk X true 2 c) 2 1 b), (slotReadF (blk X false 2 c) 2 0 b, slotReadF (blk X false 2 c) 2 1 b),
    (slotReadT (blk X true 3 c) 3 0 b, slotReadT (blk X true 3 c) 3 1 b), (slotReadF (blk X false 3 c) 3 0 b, slotReadF (blk X false 3 c) 3 1 b)]

/-- The tile stored for one head. -/
def tile (X : Start F) (q0 : S16x256x64.Idx → Elt F .f32) (c : Dev nD) (b : Fin 16) : FVec F S1x256x64 .f32 :=
  shapeCast S1x256x64 (headOut (qRead q0 b) (blocks X c b)) shapeCasts_S256x64_S1x256x64

/-- A position within one head's tile. -/
def inTile (y : S16x256x64.Idx) : S1x256x64.Idx := fun | 0 => (0 : Fin 1) | 1 => y 1 | 2 => y 2

/-- What the device's result holds at the end. -/
def outOf (X : Start F) (q0 : S16x256x64.Idx → Elt F .f32) (c : Dev nD) : S16x256x64.Idx → Elt F .f32 :=
  fun y => tile X q0 c (y 0) (inTile y)

/-- The stores of the first `n` heads' tiles, the latest first. -/
def stores (u : Fin 16 → FVec F S1x256x64 .f32) : (n : ℕ) → n ≤ 16 → List (View.Piece (Elt F) S16x256x64 .f32)
  | 0, _ => []
  | n + 1, h => ⟨Rect.unit (s := S16x256x64) ![n, 0, 0] S1x256x64.size (inbQ ⟨n, h⟩), u ⟨n, h⟩⟩ :: stores u n (Nat.le_of_succ_le h)

theorem read_stores (u : Fin 16 → FVec F S1x256x64 .f32) (o0 : S16x256x64.Idx → Elt F .f32) (y : S16x256x64.Idx) :
    (n : ℕ) → (h : n ≤ 16) → (y 0).val < n →
      (Memref.whole cc0_stg3_0 : Memref sig .tc _ _ _).view.read (Elt F) ((Memref.whole cc0_stg3_0 : Memref sig .tc _ _ _).view.writes (Elt F) o0 (stores u n h)) y = u (y 0) (inTile y)
  | 0, _, hy => absurd hy (Nat.not_lt_zero _)
  | n + 1, h, hy => by
    rcases Nat.lt_succ_iff_lt_or_eq.mp hy with hn | hn
    · refine (View.read_writes_cons_unit_of_not_mem _ _ _ _ _ y rfl (0 : Fin 3) (.inl ?_)).trans (read_stores u o0 y n _ hn)
      exact hn
    · have hb : (⟨n, h⟩ : Fin 16) = y 0 := Fin.ext hn.symm
      refine (View.read_writes_cons_unit_of_mem _ _ _ _ _ y (inTile y) rfl fun a => ?_).trans (by rw [hb])
      fin_cases a
      · exact hn.trans (Nat.add_zero n).symm
      · exact (Nat.zero_add _).symm
      · exact (Nat.zero_add _).symm

theorem stored (X : Start F) (q0 o0 : S16x256x64.Idx → Elt F .f32) (c : Dev nD) :
    (Memref.whole cc0_stg3_0 : Memref sig .tc _ _ _).view.writes (Elt F) o0 (stores (tile X q0 c) 16 (Nat.le_refl _)) = outOf X q0 c := by
  have h := funext fun y => read_stores (tile X q0 c) o0 y 16 (Nat.le_refl _) (y 0).isLt
  simp only [Memref.view_whole, View.read_whole] at h
  exact h

end Cert.Ring

end
-- ==== Proof.Heads.lean ====
/-
  One device's stored result over the extended reals, element by element.
-/
module

public import proofs.«01_k».proof.Proof.Tile
public import Idealize.ShloMosaic.Lib.Pointwise

@[expose] public section

set_option maxRecDepth 16384

noncomputable section

namespace Cert.Ring

open Cert.KernelIdeal Cert.KernelIdeal.Gen

open Idealize.ShloMosaic
open Idealize.ShloMosaic.TcCoe

/-! ## The reads -/

theorem cast1 (g : S1x256x64.Idx → Elt Ideal .f32) (i : Fin 256) (e : Fin 64) :
    shapeCast S256x64 g shapeCasts_S1x256x64_S256x64 (ix2 i e) = g (ix3 0 i e) := by pointwise
theorem cast2 (g : S1x1x64x128.Idx → Elt Ideal .f32) (e : Fin 64) (n : Fin 128) :
    shapeCast S64x128 g shapeCasts_S1x1x64x128_S64x128 (ix2 e n) = g (ix4 0 0 e n) := by pointwise
theorem cast3 (g : S1x1x1x64x128.Idx → Elt Ideal .f32) (e : Fin 64) (n : Fin 128) :
    shapeCast S64x128 g shapeCasts_S1x1x1x64x128_S64x128 (ix2 e n) = g (ix5 0 0 0 e n) := by pointwise

theorem qRead_at (q0 : S16x256x64.Idx → Elt Ideal .f32) (b : Fin 16) (i : Fin 256) (e : Fin 64) :
    qRead q0 b (ix2 i e) = q0 (ix3 b i e) := by
  refine (cast1 _ i e).trans (congrArg q0 ?_)
  funext a
  refine Fin.ext ?_
  fin_cases a
  · show b.val + 1 * 0 = b.val
    omega
  · show 0 + 1 * i.val = i.val
    omega
  · show 0 + 1 * e.val = e.val
    omega

theorem op_idx (r : Fin 2) (b : Fin 16) (e : Fin 64) (n : Fin 128) :
    (Rect.unit (s := S2x16x64x128) ![r.val, b.val, 0, 0] S1x1x64x128.size (inbO r b)).toLoadRect.idx (ix4 0 0 e n) = ix4 r b e n := by
  funext a
  refine Fin.ext ?_
  fin_cases a
  · show r.val + 1 * 0 = r.val
    omega
  · show b.val + 1 * 0 = b.val
    omega
  · show 0 + 1 * e.val = e.val
    omega
  · show 0 + 1 * n.val = n.val
    omega

theorem opReadT_at (x : S2x16x64x128.Idx → Elt Ideal .f32) (r : Fin 2) (b : Fin 16) (e : Fin 64) (n : Fin 128) :
    opReadT x r b (ix2 e n) = x (ix4 r b e n) := (cast2 _ e n).trans (congrArg x (op_idx r b e n))
theorem opReadF_at (x : S2x16x64x128.Idx → Elt Ideal .f32) (r : Fin 2) (b : Fin 16) (e : Fin 64) (n : Fin 128) :
    opReadF x r b (ix2 e n) = x (ix4 r b e n) := (cast2 _ e n).trans (congrArg x (op_idx r b e n))

theorem slot_idx (j : Fin 4) (r : Fin 2) (b : Fin 16) (e : Fin 64) (n : Fin 128) :
    tailIx ((Rect.unit (s := S4x2x16x64x128) ![j.val, r.val, b.val, 0, 0] S1x1x1x64x128.size (inbS j r b)).toLoadRect.idx (ix5 0 0 0 e n))
      = ix4 r b e n := by
  funext a
  refine Fin.ext ?_
  fin_cases a
  · show r.val + 1 * 0 = r.val
    omega
  · show b.val + 1 * 0 = b.val
    omega
  · show 0 + 1 * e.val = e.val
    omega
  · show 0 + 1 * n.val = n.val
    omega

theorem slotReadT_at (x : S2x16x64x128.Idx → Elt Ideal .f32) (j : Fin 4) (r : Fin 2) (b : Fin 16) (e : Fin 64) (n : Fin 128) :
    slotReadT x j r b (ix2 e n) = x (ix4 r b e n) := (cast3 _ e n).trans (congrArg x (slot_idx j r b e n))
theorem slotReadF_at (x : S2x16x64x128.Idx → Elt Ideal .f32) (j : Fin 4) (r : Fin 2) (b : Fin 16) (e : Fin 64) (n : Fin 128) :
    slotReadF x j r b (ix2 e n) = x (ix4 r b e n) := (cast3 _ e n).trans (congrArg x (slot_idx j r b e n))

/-! ## The steps -/

theorem weigh_at (q : FVec Ideal S256x64 .f32) (k : FVec Ideal S64x128 .f32) (i : Fin 256) (n : Fin 128) :
    weigh q k (ix2 i n) = Ideal.exp (∑ e : Fin 64, q (ix2 i e) * k (ix2 e n)) := by
  unfold weigh
  pointwise

theorem accStep_at (q a : FVec Ideal S256x64 .f32) (kv : FVec Ideal S64x128 .f32 × FVec Ideal S64x128 .f32) (i : Fin 256) (d : Fin 64) :
    accStep q a kv (ix2 i d) = a (ix2 i d) + ∑ n : Fin 128, weigh q kv.1 (ix2 i n) * kv.2 (ix2 d n) := by
  unfold accStep
  pointwise

theorem sumStep_at (q : FVec Ideal S256x64 .f32) (l : FVec Ideal S256x1 .f32) (kv : FVec Ideal S64x128 .f32 × FVec Ideal S64x128 .f32) (i : Fin 256) :
    sumStep q l kv (ix2 i 0) = l (ix2 i 0) + ∑ n : Fin 128, weigh q kv.1 (ix2 i n) := by
  unfold sumStep
  pointwise

/-! ## The head -/

theorem accs_at (q : FVec Ideal S256x64 .f32) (i : Fin 256) (d : Fin 64) (L : List (FVec Ideal S64x128 .f32 × FVec Ideal S64x128 .f32)) :
    ∀ a, L.foldl (accStep q) a (ix2 i d)
      = a (ix2 i d) + (L.map fun kv => ∑ n : Fin 128, weigh q kv.1 (ix2 i n) * kv.2 (ix2 d n)).sum := by
  induction L with
  | nil => intro a; simp
  | cons kv L ih => intro a; rw [List.foldl_cons, ih, accStep_at, List.map_cons, List.sum_cons, add_assoc]

theorem sums_at (q : FVec Ideal S256x64 .f32) (i : Fin 256) (L : List (FVec Ideal S64x128 .f32 × FVec Ideal S64x128 .f32)) :
    ∀ l, L.foldl (sumStep q) l (ix2 i 0) = l (ix2 i 0) + (L.map fun kv => ∑ n : Fin 128, weigh q kv.1 (ix2 i n)).sum := by
  induction L with
  | nil => intro a; simp
  | cons kv L ih => intro a; rw [List.foldl_cons, ih, sumStep_at, List.map_cons, List.sum_cons, add_assoc]

theorem headOut_at (q : FVec Ideal S256x64 .f32) (L : List (FVec Ideal S64x128 .f32 × FVec Ideal S64x128 .f32)) (i : Fin 256) (d : Fin 64) :
    headOut q L (ix2 i d) = Ideal.div (L.map fun kv => ∑ n : Fin 128, weigh q kv.1 (ix2 i n) * kv.2 (ix2 d n)).sum
      (L.map fun kv => ∑ n : Fin 128, weigh q kv.1 (ix2 i n)).sum := by
  unfold headOut
  pointwise
  rw [accs_at, sums_at]
  pointwise

/-- A sum over the keys in the order a device meets them: `f s j n` is the term of key `n` of the block that direction `s` brings at
    hop `j`. -/
def inOrder (f : Bool → ℕ → Fin 128 → EReal) : EReal :=
  (([(true, 0), (false, 0), (true, 1), (false, 1), (true, 2), (false, 2), (true, 3), (false, 3)] : List (Bool × ℕ)).map fun p =>
    ∑ n, f p.1 p.2 n).sum

/-- The weight that query `i` of head `b` gives key `n` of the block `x`. -/
def weight (q0 : S16x256x64.Idx → EReal) (x : S2x16x64x128.Idx → EReal) (b : Fin 16) (i : Fin 256) (n : Fin 128) : EReal :=
  Ideal.exp (∑ e : Fin 64, q0 (ix3 b i e) * x (ix4 0 b e n))

theorem tile_cast (g : FVec Ideal S256x64 .f32) (i : Fin 256) (d : Fin 64) :
    shapeCast S1x256x64 g shapeCasts_S256x64_S1x256x64 (ix3 0 i d) = g (ix2 i d) := by pointwise

theorem outOf_at (X : Start Ideal) (q0 : S16x256x64.Idx → Elt Ideal .f32) (c : Dev nD) (b : Fin 16) (i : Fin 256) (d : Fin 64) :
    outOf X q0 c (ix3 b i d) = Ideal.div
      (inOrder fun s j n => weight q0 (X s (back s j c)) b i n * X s (back s j c) (ix4 1 b d n))
      (inOrder fun s j n => weight q0 (X s (back s j c)) b i n) := by
  have h : inTile (ix3 b i d) = ix3 0 i d := by
    funext a
    fin_cases a <;> rfl
  unfold outOf tile
  rw [h, tile_cast, headOut_at]
  unfold blocks inOrder weight
  simp only [List.map_cons, List.map_nil, weigh_at, qRead_at, opReadT_at, opReadF_at, slotReadT_at, slotReadF_at, ix3_0]
  rfl

end Cert.Ring

end
-- ==== Proof.Steps.lean ====
/-
# The steps of the exchange

One rule for a hop's copy in either direction, one for a wait on one of the copy's two cells, one for
each of the barrier's signals and one for its wait.
-/
module

public import proofs.«01_k».proof.Proof.Slots

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Start F) (K : GSem nD τ sig → ℕ)

/-- Hop `h` of direction `s`, with `m` sends to come after it: the lent half of the source goes to the send cell, the
    neighbour's slot rewritten to its receive cell. -/
theorem wp_hop (s : Bool) (h : Fin 3) (c : Dev nD) (m : ℕ) (hm : item c m = xc s true h (toD s c)) (n : Dev nD) (hn : n = toD s c)
    {src dst : Memref sig .tc .vmem S2x16x64x128 .f32} {sS sR : DmaSem sig} (hs : src = srcM s h) (hd : dst = slotM s h.succ)
    (hS : sS = dq s false h) (hR : sR = dq s true h)
    {hsc : (dst : Memref sig (Dev.tc n : Thread nD τ).2.kind .vmem S2x16x64x128 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} (W : Waits sig Unit) :
    iprop(records X K ∗ holds c (srcM s h) fullShare.left (blk X s h.val c) ∗ room s h c
        ∗ owes (c : Thread nD τ) (owedX c (m + 1)) W ∗ hopToks s h c ∗ reached ER (xc s false h c) 0)
      ⊢ iprop(((cred (tallyAt (xc s false h c) () N) ∗ owes (c : Thread nD τ) (owedX c m) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) k) Q) := by
  subst hn hs hd hS hR
  unfold room holds owns hopToks
  iintro ⟨#HR, ⟨%fs, %hfs, Hs⟩, ⟨⟨%x, %fd, -, Hd⟩, #HrR⟩, HO, ⟨HtS, HtR⟩, #HrS⟩
  have hpay2 : (((slotM s h.succ).view.loc (toD s c : Thread nD τ) ↦[(slotM s h.succ).view.set]{fullShare}
        ((slotM s h.succ).view.write (Elt F) fd ((srcM s h).view.read (Elt F) fs) Finset.univ)) : sProp 𝕄)
      ⊢ (sched X).payload (xc s true h (toD s c)) 0 false := by
    rw [payload_x]
    unfold xpay holds owns
    rw [if_pos rfl]
    iintro H
    iexists ((slotM s h.succ).view.write (Elt F) fd ((srcM s h).view.read (Elt F) fs) Finset.univ)
    isplitr
    · ipureintro
      rw [View.read_write_univ, hfs]
      exact congrArg (X s) (back_toD s h.val c).symm
    · iexact H
  have hpay1 : (((srcM s h).view.loc (c : Thread nD τ) ↦[(srcM s h).view.set]{fullShare.left} fs) : sProp 𝕄)
      ⊢ (sched X).payload (xc s false h c) 0 false := by
    rw [payload_x]
    unfold xpay holds owns
    rw [if_neg Bool.false_ne_true]
    iintro H
    iexists _
    isplitr
    · ipureintro; exact hfs
    · iexact H
  iapply (Rounds.wp_send_pointsTo 𝒱₀ ER (sched X) (c : Thread nD τ) none (c' := (toD s c : Thread nD τ)) (src := srcM s h) (dst := slotM s h.succ)
    (sS := .dma (dq s false h)) (sem := .dma (dq s true h)) (q := fullShare.left) (κ₁ := K (xc s false h c)) (κ₂ := K (xc s true h (toD s c)))
    (r₁ := 0) (r₂ := 0) (d₁ := false) (d₂ := false) (fs := fs) (fd := fd)
    (by rw [duties_x]; exact Finset.mem_singleton_self _) (by rw [duties_x]; exact Finset.mem_singleton_self _)
    () () N (slot_credit s h.succ) (amount_x X c s false h false) (amount_x X (toD s c) s true h false) (owedX c m) (O₀ := owedX c (m + 1)) (congrArg (fun g => owedX c m + tallyAt g () N) hm) (W := W)
    hpay1 hpay2) $$ [Hs Hd HO HtS HtR]
  isplitr; · iapply (inv_x X K s false h c); iexact HR
  isplitr; · iapply (inv_x X K s true h (toD s c)); iexact HR
  isplitl [Hs]; · iexact Hs
  isplitl [Hd]; · iexact Hd
  isplitl [HO]; · iexact HO
  isplitl [HtS]; · iexact HtS
  isplitr; · iexact HrS
  isplitl [HtR]; · iexact HtR
  iexact HrR

/-- A wait on a cell of the exchange with `m` sends to come. -/
theorem wp_land (s v : Bool) (h : Fin 3) (c : Dev nD) (m : ℕ) (hm : m ≤ 6) (hl : ∀ j < m, lvS (.dma (dq s v h)) < 4 - j / 2)
    {q : DmaSem sig} (hq : q = dq s v h) {src dst : Memref sig .tc .vmem S2x16x64x128 .f32} {hsrc : src.view.WordExact} {hdst : dst.view.WordExact}
    (hN : dst.view.dmaCredit = N)
    {α : Type} {Q : α → sProp 𝕄} {k : PUnit → Prog (TpuEff nD τ sig (Elt F) Λ₀ .tc) α} (W : Waits sig Unit) :
    iprop(records X K ∗ levAts L lv ∗ cred (tallyAt (xc s v h c) () N) ∗ owes (c : Thread nD τ) (owedX c m) W ∗ atPos ER (xc s v h c) 0 ∅ 0)
      ⊢ iprop(((∃ W, owes (c : Thread nD τ) (owedX c m) W) ∗ at1 s v h c ∗ xpay X s v h c -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  iintro ⟨#HR, #Hlev, Hc, HO, Hat⟩ Hk
  iapply (Rounds.wp_wait_rest_token 𝒱₀ ER (sched X) (c : Thread nD τ) none (κ := K (xc s v h c))
      (wpE_waitDma2_eq 𝒱₀ (c : Thread nD τ) none Set.univ) (Set.mem_univ _) () (O := owedX c m) (W := W) (R := 0) (m := 0) (T := ∅)
      (by rw [Nat.zero_add, hN, expect_x])) $$ [Hc HO Hat]
  · isplitr; · iapply (inv_x X K s v h c); iexact HR
    isplitl [Hc]; · iexact Hc
    isplitl [HO]; · iexact HO
    isplitr; · iapply (mayWait_x c (.dma (dq s v h)) m hm hl); iexact Hlev
    iexact Hat
  iintro ⟨HO, Hat, -, Hpay⟩
  iapply Hk
  isplitl [HO]; · iexists _; iexact HO
  isplitl [Hat]; · unfold at1; iexact Hat
  iapply (Entails.of_eq (rest_x X c s v h)); iexact Hpay

/-- The wait for a copy of its own to have left: half of the source comes back. -/
theorem wp_sent (s : Bool) (h : Fin 3) {M : Memref sig .tc .vmem S2x16x64x128 .f32} (hM : srcM s h = M) {i : ℕ} (hi : h.val = i) (c : Dev nD) (m : ℕ) (hm : m ≤ 6) (hl : ∀ j < m, lvS (.dma (dq s false h)) < 4 - j / 2)
    {q : DmaSem sig} (hq : q = dq s false h) {src dst : Memref sig .tc .vmem S2x16x64x128 .f32} {hsrc : src.view.WordExact} {hdst : dst.view.WordExact}
    (hN : dst.view.dmaCredit = N)
    {α : Type} {Q : α → sProp 𝕄} {k : PUnit → Prog (TpuEff nD τ sig (Elt F) Λ₀ .tc) α} (W : Waits sig Unit) :
    iprop(records X K ∗ levAts L lv ∗ cred (tallyAt (xc s false h c) () N) ∗ owes (c : Thread nD τ) (owedX c m) W ∗ atPos ER (xc s false h c) 0 ∅ 0)
      ⊢ iprop(((∃ W, owes (c : Thread nD τ) (owedX c m) W) ∗ at1 s false h c ∗ holds c M fullShare.left (blk X s i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hM hi
  exact wp_land X K s false h c m hm hl hq hN W

/-- The wait for a neighbour's copy: the slot is filled. -/
theorem wp_got (s : Bool) (h : Fin 3) {j : Fin 4} (hj : h.succ = j) {i : ℕ} (hi : h.val + 1 = i) (c : Dev nD) (m : ℕ) (hm : m ≤ 6) (hl : ∀ j < m, lvS (.dma (dq s true h)) < 4 - j / 2)
    {q : DmaSem sig} (hq : q = dq s true h) {src dst : Memref sig .tc .vmem S2x16x64x128 .f32} {hsrc : src.view.WordExact} {hdst : dst.view.WordExact}
    (hN : dst.view.dmaCredit = N)
    {α : Type} {Q : α → sProp 𝕄} {k : PUnit → Prog (TpuEff nD τ sig (Elt F) Λ₀ .tc) α} (W : Waits sig Unit) :
    iprop(records X K ∗ levAts L lv ∗ crd s h c ∗ owes (c : Thread nD τ) (owedX c m) W ∗ atPos ER (xc s true h c) 0 ∅ 0)
      ⊢ iprop(((∃ W, owes (c : Thread nD τ) (owedX c m) W) ∗ at1 s true h c ∗ holds c (slotM s j) fullShare (blk X s i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hj hi
  exact wp_land X K s true h c m hm hl hq hN W

/-- The signal that gives the neighbour of direction `s` its landing slots on this device: `frmD s c`'s duty `s`. -/
theorem wp_give (s : Bool) (c n : Dev nD) (hn : n = frmD s c) {sm : Sem sig} (hsm : sm = barS) (O O' : CellTallies nD τ sig Unit)
    (hO : O' = O + tallyAt (bar (frmD s c)) () 1) {k' : ℤ} (hk : k' = ((1 : ℕ) : ℤ))
    {α : Type} {Q : α → sProp 𝕄} {k : PUnit → Prog (TpuEff nD τ sig (Elt F) Λ₀ .tc) α} (W : Waits sig Unit) :
    iprop(records X K ∗ owes (c : Thread nD τ) O' W ∗ dutyTok ER (bar (frmD s c)) 0 s
        ∗ gift s 0 c ∗ gift s 1 c ∗ gift s 2 c)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm k') k) Q) := by
  subst hn hsm hk
  iintro ⟨#HR, HO, Ht, Hs⟩
  iapply (Rounds.wp_signal 𝒱₀ ER (sched X) (c : Thread nD τ) none (dst := (frmD s c : Thread nD τ)) (sem := barS) (r := 0) (d := s)
      (κ := K (bar (frmD s c))) (by rw [duties_bar]; exact Finset.mem_univ _) (amount_bar X (frmD s c) s) () O hO) $$ [HO Ht Hs]
  isplitr; · iapply (inv_bar X K (frmD s c)); iexact HR
  isplitl [HO]; · iexact HO
  isplitl [Ht]; · iexact Ht
  isplitl [Hs]
  · rw [payload_bar]; unfold barPay; rw [toD_frmD, three]; unfold gift
    iexact Hs
  · iapply (reached_bar X K (frmD s c)); iexact HR

/-- The barrier wait: both neighbours' slots. -/
theorem wp_meet (c : Dev nD) {sm : Sem sig} (hsm : sm = barS) {k' : ℤ} (hk : k' = ((2 : ℕ) : ℤ))
    {α : Type} {Q : α → sProp 𝕄} {k : PUnit → Prog (TpuEff nD τ sig (Elt F) Λ₀ .tc) α} (W : Waits sig Unit) :
    iprop(records X K ∗ levAts L lv ∗ cred (tallyAt (bar c) () 2) ∗ owes (c : Thread nD τ) (owedX c 6) W ∗ atPos ER (bar c) 0 ∅ 0)
      ⊢ iprop(((∃ W, owes (c : Thread nD τ) (owedX c 6) W) ∗ atPos ER (bar c) (0 + 1) ∅ 0 ∗ (room false 0 c ∗ room false 1 c ∗ room false 2 c) ∗ (room true 0 c ∗ room true 1 c ∗ room true 2 c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm k') k) Q) := by
  subst hsm hk
  iintro ⟨#HR, #Hlev, Hc, HO, Hat⟩ Hk
  iapply (Rounds.wp_wait_rest_token 𝒱₀ ER (sched X) (c : Thread nD τ) none (κ := K (bar c))
      (wpE_semWait_eq 𝒱₀ (c : Thread nD τ) none Set.univ) (Set.mem_univ _) () (O := owedX c 6) (W := W) (R := 0) (m := 0) (T := ∅)
      ((Nat.zero_add 2).trans (expect_bar X c).symm)) $$ [Hc HO Hat]
  · isplitr; · iapply (inv_bar X K c); iexact HR
    isplitl [Hc]; · iexact Hc
    isplitl [HO]; · iexact HO
    isplitr; · iapply (mayWait_x c (.reg barS) 6 (Nat.le_refl _) (by decide)); iexact Hlev
    iexact Hat
  iintro ⟨HO, Hat, -, Hpay⟩
  iapply Hk
  isplitl [HO]; · iexists _; iexact HO
  isplitl [Hat]; · iexact Hat
  rw [← barPay_eq, ← barPay_eq]
  iapply (Entails.of_eq (rest_bar X c)); iexact Hpay

end Cert.Ring

end
-- ==== Proof.Body.lean ====
/-
  One device's whole run of the kernel: the handshake with both neighbours, the three exchanges with the computation over the
  blocks at hand under each, and the stores, from the cells opened to the counters back at zero.
-/
module

public import proofs.«01_k».proof.Proof.Steps
public import proofs.«01_k».proof.Proof.Tile

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Start F) (q0 : S16x256x64.Idx → Elt F .f32) (K : GSem nD τ sig → ℕ)

/-- What one device's run starts from. -/
def bodyPre (c : Dev nD) (W : Waits sig Unit) (o0 : S16x256x64.Idx → Elt F .f32) : sProp 𝕄 :=
  iprop(records X K ∗ levAts L lv ∗ opened c ∗ credits c ∗ owes (c : Thread nD τ) (owed0 c) W
    ∗ (∃ f, bufOn true c Finset.univ fullShare f) ∗ (∃ f, bufOn false c Finset.univ fullShare f)
    ∗ stgPts c cc0_stg0_0 fullShare q0 ∗ stgPts c cc0_stg1_0 fullShare (X true c) ∗ stgPts c cc0_stg2_0 fullShare (X false c)
    ∗ stgPts c cc0_stg3_0 fullShare o0)

/-- What it ends with. -/
def bodyPost (c : Dev nD) : sProp 𝕄 :=
  iprop(semVal (bar c) 0 ∗ (bigSep Finset.univ fun i : XI => semVal (xc i.1 i.2.1 i.2.2 c) 0)
    ∗ (∃ f, bufOn true c Finset.univ fullShare f) ∗ (∃ f, bufOn false c Finset.univ fullShare f)
    ∗ stgPts c cc0_stg0_0 fullShare q0 ∗ stgPts c cc0_stg1_0 fullShare (X true c) ∗ stgPts c cc0_stg2_0 fullShare (X false c)
    ∗ stgPts c cc0_stg3_0 fullShare (outOf X q0 c) ∗ ∃ W, owes (c : Thread nD τ) (0 : CellTallies nD τ sig Unit) W)

theorem pts_eq (c : Dev nD) (b : Ref sig .tc) {x y : b.ty.Contents (Elt F)} (h : x = y) :
    (stgPts c b fullShare x : sProp 𝕄) ⊢ stgPts c b fullShare y := Entails.of_eq (by rw [h])

theorem sound_body (c : Dev nD) (W : Waits sig Unit) (o0 : S16x256x64.Idx → Elt F .f32) (Kt : PUnit → sProp 𝕄) :
    iprop(bodyPre X q0 K c W o0 ∗ (bodyPost X q0 c -∗ Kt ⟨⟩))
      ⊢ wp frame (wpE (defs₀ (F := F)) 𝒱₀ c none) Set.univ
          (cc0__body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3 cc0_scratch4 cc0_scratch5) Kt := by
  simp only [cc0__body_eq_skeleton]; unfold cc0__body_skel
  unfold bodyPre
  rw [opened_eq, credits_eq]
  iintro ⟨⟨#HR, #Hlev, Hop, Hcr, HO, ⟨%fr, Hr⟩, ⟨%fl, Hl⟩, Hq, Hs1, Hs2, Hout⟩, Hk⟩
  icases Hop with ⟨HaB, ⟨⟨⟨HaR0, HaR1, HaR2⟩, HaS0, HaS1, HaS2⟩, ⟨HaQ0, HaQ1, HaQ2⟩, HaP0, HaP1, HaP2⟩, ⟨HtT, HtF⟩, ⟨Ht0, Ht1, Ht2⟩, Hu0, Hu1, Hu2⟩
  icases Hcr with ⟨HcB, ⟨HcR0, HcR1, HcR2⟩, HcQ0, HcQ1, HcQ2⟩
  ihave Hr := (split_slots true c fr) $$ Hr
  icases Hr with ⟨Hr0, Hr1, Hr2, Hr3⟩
  ihave Hl := (split_slots false c fl) $$ Hl
  icases Hl with ⟨Hl0, Hl1, Hl2, Hl3⟩
  unfold at0
  icases HaR0 with ⟨HaR0, #HrR0⟩
  icases HaR1 with ⟨HaR1, #HrR1⟩
  icases HaR2 with ⟨HaR2, #HrR2⟩
  icases HaQ0 with ⟨HaQ0, #HrQ0⟩
  icases HaQ1 with ⟨HaQ1, #HrQ1⟩
  icases HaQ2 with ⟨HaQ2, #HrQ2⟩
  icases HaS0 with ⟨HaS0, #HrS0⟩
  icases HaS1 with ⟨HaS1, #HrS1⟩
  icases HaS2 with ⟨HaS2, #HrS2⟩
  icases HaP0 with ⟨HaP0, #HrP0⟩
  icases HaP1 with ⟨HaP1, #HrP1⟩
  icases HaP2 with ⟨HaP2, #HrP2⟩
  sl_exec
  -- the landing slots of the rightward copies to the left neighbour, of the leftward ones to the right neighbour
  iapply (wp_give X K true c _ (dev1_eq c) (by rfl) (owed1 c) (owed0 c) rfl (by decide) W) $$ [HO HtT Hr1 Hr2 Hr3]
  · isplitr; · iexact HR
    isplitl [HO]; · iexact HO
    isplitl [HtT]; · iexact HtT
    unfold gift
    isplitl [Hr1]; · isplitl [Hr1]; · iexact Hr1
                     iexact HrR0
    isplitl [Hr2]; · isplitl [Hr2]; · iexact Hr2
                     iexact HrR1
    isplitl [Hr3]; · iexact Hr3
    iexact HrR2
  iintro HO
  sl_exec
  iapply (wp_give X K false c _ (dev2_eq c) (by rfl) (owedX c 6) (owed1 c) rfl (by decide) W) $$ [HO HtF Hl1 Hl2 Hl3]
  · isplitr; · iexact HR
    isplitl [HO]; · iexact HO
    isplitl [HtF]; · iexact HtF
    unfold gift
    isplitl [Hl1]; · isplitl [Hl1]; · iexact Hl1
                     iexact HrQ0
    isplitl [Hl2]; · isplitl [Hl2]; · iexact Hl2
                     iexact HrQ1
    isplitl [Hl3]; · iexact Hl3
    iexact HrQ2
  iintro HO
  sl_exec
  iapply (wp_meet X K c (by rfl) (by decide) W) $$ [HO HcB HaB]
  · isplitr; · iexact HR
    isplitr; · iexact Hlev
    isplitl [HcB]; · iexact HcB
    isplitl [HO] <;> iassumption
  iintro ⟨⟨%W1, HO⟩, HaB, ⟨Hp0, Hp1, Hp2⟩, Hn0, Hn1, Hn2⟩
  -- hop 0
  ihave Hs1 := (Entails.of_eq (lend_op1 c (X true c))) $$ Hs1
  icases Hs1 with ⟨Hs1l, Hs1⟩
  ihave Hs2 := (Entails.of_eq (lend_op2 c (X false c))) $$ Hs2
  icases Hs2 with ⟨Hs2l, Hs2⟩
  sl_exec
  iapply (wp_hop X K true 0 c 5 rfl _ (dev3_eq c) (by rfl) (by rfl) (by rfl) (by rfl) W1) $$ [HO Hs1l Hn0 Ht0]
  · isplitr; · iexact HR
    isplitl [Hs1l]; · iexact Hs1l
    isplitl [Hn0]; · iexact Hn0
    isplitl [HO]; · iexact HO
    isplitl [Ht0]; · iexact Ht0
    iexact HrS0
  iintro ⟨HcS0, HO⟩
  sl_exec
  iapply (wp_hop X K false 0 c 4 rfl _ (dev4_eq c) (by rfl) (by rfl) (by rfl) (by rfl) W1) $$ [HO Hs2l Hp0 Hu0]
  · isplitr; · iexact HR
    isplitl [Hs2l]; · iexact Hs2l
    isplitl [Hp0]; · iexact Hp0
    isplitl [HO]; · iexact HO
    isplitl [Hu0]; · iexact Hu0
    iexact HrP0
  iintro ⟨HcP0, HO⟩
  sl_exec
  iapply (wp_sent X K true 0 (M := opM true) (i := 0) rfl rfl c 4 (by decide) (by decide) (by rfl) (by rfl) W1) $$ [HO HcS0 HaS0]
  · isplitr; · iexact HR
    isplitr; · iexact Hlev
    isplitl [HcS0]; · iexact HcS0
    isplitl [HO] <;> iassumption
  iintro ⟨⟨%W2, HO⟩, HaS0, Hs1l⟩
  sl_exec
  iapply (wp_got X K true 0 (j := 1) (i := 1) rfl rfl c 4 (by decide) (by decide) (by rfl) (by rfl) W2) $$ [HO HcR0 HaR0]
  · isplitr; · iexact HR
    isplitr; · iexact Hlev
    isplitl [HcR0]; · iexact HcR0
    isplitl [HO] <;> iassumption
  iintro ⟨⟨%W3, HO⟩, HaR0, Hr1⟩
  sl_exec
  iapply (wp_sent X K false 0 (M := opM false) (i := 0) rfl rfl c 4 (by decide) (by decide) (by rfl) (by rfl) W3) $$ [HO HcP0 HaP0]
  · isplitr; · iexact HR
    isplitr; · iexact Hlev
    isplitl [HcP0]; · iexact HcP0
    isplitl [HO] <;> iassumption
  iintro ⟨⟨%W4, HO⟩, HaP0, Hs2l⟩
  sl_exec
  iapply (wp_got X K false 0 (j := 1) (i := 1) rfl rfl c 4 (by decide) (by decide) (by rfl) (by rfl) W4) $$ [HO HcQ0 HaQ0]
  · isplitr; · iexact HR
    isplitr; · iexact Hlev
    isplitl [HcQ0]; · iexact HcQ0
    isplitl [HO] <;> iassumption
  iintro ⟨⟨%W5, HO⟩, HaQ0, Hl1⟩
  -- the operands are whole again; the slots filled are lent by half to the next copies
  ihave Hs1 := (Entails.of_eq (lend_op1 c (X true c)).symm) $$ [Hs1l Hs1]
  · isplitl [Hs1l]; · iexact Hs1l
    iexact Hs1
  ihave Hs2 := (Entails.of_eq (lend_op2 c (X false c)).symm) $$ [Hs2l Hs2]
  · isplitl [Hs2l]; · iexact Hs2l
    iexact Hs2
  ihave Hr1 := (Entails.of_eq (lend_true c 1 (blk X true 1 c))) $$ Hr1
  icases Hr1 with ⟨Hr1l, Hr1⟩
  ihave Hl1 := (Entails.of_eq (lend_false c 1 (blk X false 1 c))) $$ Hl1
  icases Hl1 with ⟨Hl1l, Hl1⟩
  sl_exec
  iapply (wp_hop X K true 1 c 3 rfl _ (dev5_eq c) (by rfl) (by rfl) (by rfl) (by rfl) W5) $$ [HO Hr1l Hn1 Ht1]
  · isplitr; · iexact HR
    isplitl [Hr1l]; · iexact Hr1l
    isplitl [Hn1]; · iexact Hn1
    isplitl [HO]; · iexact HO
    isplitl [Ht1]; · iexact Ht1
    iexact HrS1
  iintro ⟨HcS1, HO⟩
  sl_exec
  iapply (wp_hop X K false 1 c 2 rfl _ (dev6_eq c) (by rfl) (by rfl) (by rfl) (by rfl) W5) $$ [HO Hl1l Hp1 Hu1]
  · isplitr; · iexact HR
    isplitl [Hl1l]; · iexact Hl1l
    isplitl [Hp1]; · iexact Hp1
    isplitl [HO]; · iexact HO
    isplitl [Hu1]; · iexact Hu1
    iexact HrP1
  iintro ⟨HcP1, HO⟩
  sl_exec
  iapply (wp_sent X K true 1 (M := slotM true 1) (i := 1) rfl rfl c 2 (by decide) (by decide) (by rfl) (by rfl) W5) $$ [HO HcS1 HaS1]
  · isplitr; · iexact HR
    isplitr; · iexact Hlev
    isplitl [HcS1]; · iexact HcS1
    isplitl [HO] <;> iassumption
  iintro ⟨⟨%W6, HO⟩, HaS1, Hr1l⟩
  sl_exec
  iapply (wp_got X K true 1 (j := 2) (i := 2) rfl rfl c 2 (by decide) (by decide) (by rfl) (by rfl) W6) $$ [HO HcR1 HaR1]
  · isplitr; · iexact HR
    isplitr; · iexact Hlev
    isplitl [HcR1]; · iexact HcR1
    isplitl [HO] <;> iassumption
  iintro ⟨⟨%W7, HO⟩, HaR1, Hr2⟩
  sl_exec
  iapply (wp_sent X K false 1 (M := slotM false 1) (i := 1) rfl rfl c 2 (by decide) (by decide) (by rfl) (by rfl) W7) $$ [HO HcP1 HaP1]
  · isplitr; · iexact HR
    isplitr; · iexact Hlev
    isplitl [HcP1]; · iexact HcP1
    isplitl [HO] <;> iassumption
  iintro ⟨⟨%W8, HO⟩, HaP1, Hl1l⟩
  sl_exec
  iapply (wp_got X K false 1 (j := 2) (i := 2) rfl rfl c 2 (by decide) (by decide) (by rfl) (by rfl) W8) $$ [HO HcQ1 HaQ1]
  · isplitr; · iexact HR
    isplitr; · iexact Hlev
    isplitl [HcQ1]; · iexact HcQ1
    isplitl [HO] <;> iassumption
  iintro ⟨⟨%W9, HO⟩, HaQ1, Hl2⟩
  ihave Hr1 := (Entails.of_eq (lend_true c 1 (blk X true 1 c)).symm) $$ [Hr1l Hr1]
  · isplitl [Hr1l]; · iexact Hr1l
    iexact Hr1
  ihave Hl1 := (Entails.of_eq (lend_false c 1 (blk X false 1 c)).symm) $$ [Hl1l Hl1]
  · isplitl [Hl1l]; · iexact Hl1l
    iexact Hl1
  ihave Hr2 := (Entails.of_eq (lend_true c 2 (blk X true 2 c))) $$ Hr2
  icases Hr2 with ⟨Hr2l, Hr2⟩
  ihave Hl2 := (Entails.of_eq (lend_false c 2 (blk X false 2 c))) $$ Hl2
  icases Hl2 with ⟨Hl2l, Hl2⟩
  sl_exec
  iapply (wp_hop X K true 2 c 1 rfl _ (dev7_eq c) (by rfl) (by rfl) (by rfl) (by rfl) W9) $$ [HO Hr2l Hn2 Ht2]
  · isplitr; · iexact HR
    isplitl [Hr2l]; · iexact Hr2l
    isplitl [Hn2]; · iexact Hn2
    isplitl [HO]; · iexact HO
    isplitl [Ht2]; · iexact Ht2
    iexact HrS2
  iintro ⟨HcS2, HO⟩
  sl_exec
  iapply (wp_hop X K false 2 c 0 rfl _ (dev8_eq c) (by rfl) (by rfl) (by rfl) (by rfl) W9) $$ [HO Hl2l Hp2 Hu2]
  · isplitr; · iexact HR
    isplitl [Hl2l]; · iexact Hl2l
    isplitl [Hp2]; · iexact Hp2
    isplitl [HO]; · iexact HO
    isplitl [Hu2]; · iexact Hu2
    iexact HrP2
  iintro ⟨HcP2, HO⟩
  sl_exec
  iapply (wp_sent X K true 2 (M := slotM true 2) (i := 2) rfl rfl c 0 (by decide) (by decide) (by rfl) (by rfl) W9) $$ [HO HcS2 HaS2]
  · isplitr; · iexact HR
    isplitr; · iexact Hlev
    isplitl [HcS2]; · iexact HcS2
    isplitl [HO] <;> iassumption
  iintro ⟨⟨%W10, HO⟩, HaS2, Hr2l⟩
  sl_exec
  iapply (wp_got X K true 2 (j := 3) (i := 3) rfl rfl c 0 (by decide) (by decide) (by rfl) (by rfl) W10) $$ [HO HcR2 HaR2]
  · isplitr; · iexact HR
    isplitr; · iexact Hlev
    isplitl [HcR2]; · iexact HcR2
    isplitl [HO] <;> iassumption
  iintro ⟨⟨%W11, HO⟩, HaR2, Hr3⟩
  sl_exec
  iapply (wp_sent X K false 2 (M := slotM false 2) (i := 2) rfl rfl c 0 (by decide) (by decide) (by rfl) (by rfl) W11) $$ [HO HcP2 HaP2]
  · isplitr; · iexact HR
    isplitr; · iexact Hlev
    isplitl [HcP2]; · iexact HcP2
    isplitl [HO] <;> iassumption
  iintro ⟨⟨%W12, HO⟩, HaP2, Hl2l⟩
  sl_exec
  iapply (wp_got X K false 2 (j := 3) (i := 3) rfl rfl c 0 (by decide) (by decide) (by rfl) (by rfl) W12) $$ [HO HcQ2 HaQ2]
  · isplitr; · iexact HR
    isplitr; · iexact Hlev
    isplitl [HcQ2]; · iexact HcQ2
    isplitl [HO] <;> iassumption
  iintro ⟨⟨%W13, HO⟩, HaQ2, Hl3⟩
  ihave Hr2 := (Entails.of_eq (lend_true c 2 (blk X true 2 c)).symm) $$ [Hr2l Hr2]
  · isplitl [Hr2l]; · iexact Hr2l
    iexact Hr2
  ihave Hl2 := (Entails.of_eq (lend_false c 2 (blk X false 2 c)).symm) $$ [Hl2l Hl2]
  · isplitl [Hl2l]; · iexact Hl2l
    iexact Hl2
  ihave Hr3 := (Entails.of_eq (holds_true c 3 fullShare (blk X true 3 c))) $$ Hr3
  ihave Hl3 := (Entails.of_eq (holds_false c 3 fullShare (blk X false 3 c))) $$ Hl3
  sl_exec
  -- the cells close, their counters at zero
  imod (close_bar X K c) $$ [HaB] with HvB
  · isplitr; · iexact HR
    iexact HaB
  imod (close_cells X K c) $$ [HaR0 HaR1 HaR2 HaS0 HaS1 HaS2 HaQ0 HaQ1 HaQ2 HaP0 HaP1 HaP2] with Hv
  · isplitr; · iexact HR
    iapply (Entails.of_eq (past_eq c).symm)
    isplitl [HaR0 HaR1 HaR2 HaS0 HaS1 HaS2]
    · isplitl [HaR0 HaR1 HaR2]
      · isplitl [HaR0]; · iexact HaR0
        isplitl [HaR1] <;> iassumption
      isplitl [HaS0]; · iexact HaS0
      isplitl [HaS1] <;> iassumption
    isplitl [HaQ0 HaQ1 HaQ2]
    · isplitl [HaQ0]; · iexact HaQ0
      isplitl [HaQ1] <;> iassumption
    isplitl [HaP0]; · iexact HaP0
    isplitl [HaP1] <;> iassumption
  ihave Hr3 := (Entails.of_eq (holds_true c 3 fullShare (blk X true 3 c)).symm) $$ Hr3
  ihave Hl3 := (Entails.of_eq (holds_false c 3 fullShare (blk X false 3 c)).symm) $$ Hl3
  icases Hr0 with ⟨%r0, Hr0⟩
  icases Hl0 with ⟨%l0, Hl0⟩
  ihave Hr := (join_slots true c r0 (blk X true 1 c) (blk X true 2 c) (blk X true 3 c)) $$ [Hr0 Hr1 Hr2 Hr3]
  · isplitl [Hr0]; · iexact Hr0
    isplitl [Hr1]; · iexact Hr1
    isplitl [Hr2] <;> iassumption
  ihave Hl := (join_slots false c l0 (blk X false 1 c) (blk X false 2 c) (blk X false 3 c)) $$ [Hl0 Hl1 Hl2 Hl3]
  · isplitl [Hl0]; · iexact Hl0
    isplitl [Hl1]; · iexact Hl1
    isplitl [Hl2] <;> iassumption
  rw [wp_ret]; imodintro
  iapply Hk
  unfold bodyPost
  isplitl [HvB]; · iexact HvB
  isplitl [Hv]; · iexact Hv
  isplitl [Hr]; · iexact Hr
  isplitl [Hl]; · iexact Hl
  isplitl [Hq]; · iexact Hq
  isplitl [Hs1]; · iexact Hs1
  isplitl [Hs2]; · iexact Hs2
  isplitr [HO]
  · iapply (pts_eq c cc0_stg3_0 (stored X q0 o0 c))
    iexact Hout
  · iexists _; iexact HO

end Cert.Ring

end
-- ==== Proof.Region.lean ====
/-
  The kernel region on one device: what its operands hold when it is entered, the proof data of its one point, and the record
  of the region with the right to open the exchange's cells taken in and the counters given back at zero.
-/
module

public import proofs.«01_k».proof.Proof.Body
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.ValueKit.Geometry

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (BodyObligation)

variable {F : FTy → Type} [FloatOps F]

local notation "𝕄" => MT nD τ sig Unit (Elt F) ℕ UU ℕ

variable (m : (ℓ : Loc nD τ sig) → Buf (Elt F) ℓ)

/-! ## Contents -/

/-- What a device's buffers hold at launch, when the region is entered, when it is left, and at the end. -/
abbrev V₀ (c : Dev nD) : Valuation τ sig (Elt F) := fun b => m (c, b)
abbrev V₁ (c : Dev nD) : Valuation τ sig (Elt F) := StableHlo.after hostOps0 (V₀ m c)

/-- The scaled queries, and the two halves of keys and values the exchange starts from. -/
def qs (c : Dev nD) : S16x256x64.Idx → Elt F .f32 := V₁ m c main_v4
def kv : Start F
  | true, c => V₁ m c main_v13
  | false, c => V₁ m c main_v18

abbrev V₂ (c : Dev nD) : Valuation τ sig (Elt F) :=
  Function.update (V₁ m c) (Proc.devRef .tc main_v19) (outOf (kv m) (qs m c) c)
abbrev V₃ (c : Dev nD) : Valuation τ sig (Elt F) := StableHlo.after hostOps1 (V₂ m c)

/-! ## The proof data -/

/-- What enters the body's invariant beside the landing buffers, and what leaves it. -/
def Xk (c : Dev nD) : sProp 𝕄 := iprop((∃ K, records (kv m) K ∗ opened c) ∗ credits c ∗ levAts L lv)
def scratch (c : Dev nD) : sProp 𝕄 :=
  iprop((∃ f, bufOn true c Finset.univ fullShare f) ∗ ∃ f, bufOn false c Finset.univ fullShare f)
def zeros (c : Dev nD) : sProp 𝕄 := bigSep Finset.univ fun i : XI => semVal (xc i.1 i.2.1 i.2.2 c) 0

def dat (c : Dev nD) : Pipeline.Dat τ (Elt F) Unit ℕ UU ℕ cfg0 c where
  A w := V₁ m c (Pipeline.arrRef spec0 w)
  after w _ := match w with
    | ⟨0, _⟩ => qs m c
    | ⟨1, _⟩ => kv m true c
    | ⟨2, _⟩ => kv m false c
    | ⟨3, _⟩ => outOf (kv m) (qs m c) c
  Φ t := if t.val = 0 then iprop(Xk m c ∗ scratch c ∗ ∃ r, prngReg c r)
    else iprop((semVal (bar c) 0 ∗ zeros c) ∗ scratch c ∗ ∃ r, prngReg c r)
  q _ := fullShare
  owed t := if t.val = 0 then owed0 c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem share_eq (c : Dev nD) (w : Fin cfg0.W) : (dat m c).share w = fullShare := by unfold Pipeline.Dat.share; split <;> rfl

/-! ## The windows cover their arrays -/

theorem before_q (c : Dev nD) (d) : (dat m c).before 0 t0_0 d = qs m c := by
  unfold Pipeline.Dat.before; rw [if_pos (fetch0_0 _)]
  funext i
  show V₁ m c main_v4 _ = V₁ m c main_v4 i
  refine congrArg (V₁ m c main_v4) (funext fun a => Fin.ext ?_)
  blk_simp
  fin_cases a <;> exact Nat.zero_add _
theorem before_r (c : Dev nD) (d) : (dat m c).before 1 t0_0 d = kv m true c := by
  unfold Pipeline.Dat.before; rw [if_pos (fetch0_1 _)]
  funext i
  show V₁ m c main_v13 _ = V₁ m c main_v13 i
  refine congrArg (V₁ m c main_v13) (funext fun a => Fin.ext ?_)
  blk_simp
  fin_cases a <;> exact Nat.zero_add _
theorem before_l (c : Dev nD) (d) : (dat m c).before 2 t0_0 d = kv m false c := by
  unfold Pipeline.Dat.before; rw [if_pos (fetch0_2 _)]
  funext i
  show V₁ m c main_v18 _ = V₁ m c main_v18 i
  refine congrArg (V₁ m c main_v18) (funext fun a => Fin.ext ?_)
  blk_simp
  fin_cases a <;> exact Nat.zero_add _

theorem out_eq (c : Dev nD) : (dat m c).arrAt 3 cfg0.N = outOf (kv m) (qs m c) c := by
  refine (dat m c).arrAt_eq_of_after_last 3 t0_0 (by decide +kernel) _ fun j => ?_
  blk_simp
  rfl

/-! ## The body obligation -/

theorem owns_whole (c : Dev nD) (b : Ref sig .tc) (x : b.ty.Contents (Elt F)) :
    (owns (Ix := Unit) (Name := ℕ) (U := UU) (Lvl := ℕ) (c : Thread nD τ) (Memref.whole b) fullShare x : sProp 𝕄)
      = stgPts c b fullShare x := by
  unfold owns
  simp only [Memref.view_whole, View.read_whole, View.set_whole]
  have h1 : (iprop(∃ f : Buf (Elt F) ((c : Thread nD τ).loc b), ⌜f = x⌝ ∗ ((c : Thread nD τ).loc b) ↦{fullShare} f) : sProp 𝕄)
      ⊢ stgPts c b fullShare x := by
    iintro ⟨%f, %h, H⟩; subst h; iexact H
  have h2 : (stgPts c b fullShare x : sProp 𝕄)
      ⊢ iprop(∃ f : Buf (Elt F) ((c : Thread nD τ).loc b), ⌜f = x⌝ ∗ ((c : Thread nD τ).loc b) ↦{fullShare} f) := by
    iintro H; iexists x; isplitr; · ipureintro; rfl
    iexact H
  exact BI.equiv_iff.mp ⟨h1, h2⟩

theorem owes_out (c : Dev nD) : ((dat m c).owesAt () t0_0.castSucc : sProp 𝕄) ⊢ ∃ W, owes (c : Thread nD τ) (owed0 c) W := by
  unfold Pipeline.Dat.owesAt Pipeline.owesWithin
  iintro ⟨%W, -, H⟩
  iexists W; iexact H
theorem owes_in (c : Dev nD) (W : Waits sig Unit) :
    (owes (c : Thread nD τ) (0 : CellTallies nD τ sig Unit) W : sProp 𝕄) ⊢ (dat m c).owesAt () t0_0.succ := by
  unfold Pipeline.Dat.owesAt Pipeline.owesWithin
  iintro H
  iexists W
  isplitr; · ipureintro; exact fun _ _ => Or.inl trivial
  iexact H

theorem obligation (c : Dev nD) : BodyObligation (dat m c) (defs₀ (F := F)) 𝒱₀ () Set.univ := fun t => by
  rw [fin_N0 t]
  rw [bigSep_W0, bigSep_W0]
  rw [show (dat m c).Φ t0_0.castSucc = iprop(Xk m c ∗ scratch c ∗ ∃ r, prngReg c r) from rfl,
    show (dat m c).Φ t0_0.succ = iprop((semVal (bar c) 0 ∗ zeros c) ∗ scratch c ∗ ∃ r, prngReg c r) from rfl]
  simp only [before_q, before_r, before_l]
  unfold Xk scratch zeros
  iintro ⟨⟨⟨⟨%K, HR, Hop⟩, Hcr, Hlev⟩, ⟨Hs0, Hs1⟩, Hp⟩, HO, ⟨%d0, H0⟩, ⟨%d1, H1⟩, ⟨%d2, H2⟩, ⟨%d3, H3⟩⟩
  ihave HO := (owes_out m c) $$ HO
  icases HO with ⟨%W, HO⟩
  ihave H0 := (Entails.of_eq (owns_whole c cc0_stg0_0 (qs m c))) $$ H0
  ihave H1 := (Entails.of_eq (owns_whole c cc0_stg1_0 (kv m true c))) $$ H1
  ihave H2 := (Entails.of_eq (owns_whole c cc0_stg2_0 (kv m false c))) $$ H2
  ihave H3 := (Entails.of_eq (owns_whole c cc0_stg3_0 _)) $$ H3
  iapply (sound_body (kv m) (qs m c) K c W _ _)
  isplitr [Hp]
  · unfold bodyPre
    isplitl [HR]; · iexact HR
    isplitl [Hlev]; · iexact Hlev
    isplitl [Hop]; · iexact Hop
    isplitl [Hcr]; · iexact Hcr
    isplitl [HO]; · iexact HO
    isplitl [Hs0]; · iexact Hs0
    isplitl [Hs1]; · iexact Hs1
    isplitl [H0]; · iexact H0
    isplitl [H1]; · iexact H1
    isplitl [H2]; · iexact H2
    iexact H3
  unfold bodyPost
  iintro ⟨Hb, Hz, Hs0, Hs1, H0, H1, H2, H3, ⟨%W', HO⟩⟩
  isplitr [HO H0 H1 H2 H3]
  · isplitl [Hb Hz]; · isplitl [Hb] <;> iassumption
    isplitl [Hs0 Hs1]; · isplitl [Hs0] <;> iassumption
    iexact Hp
  isplitl [HO]; · iapply (owes_in m c W'); iexact HO
  isplitl [H0]; · iapply (Entails.of_eq (owns_whole c cc0_stg0_0 (qs m c)).symm); iexact H0
  isplitl [H1]; · iapply (Entails.of_eq (owns_whole c cc0_stg1_0 (kv m true c)).symm); iexact H1
  isplitl [H2]; · iapply (Entails.of_eq (owns_whole c cc0_stg2_0 (kv m false c)).symm); iexact H2
  iapply (Entails.of_eq (owns_whole c cc0_stg3_0 (outOf (kv m) (qs m c) c)).symm); iexact H3

/-! ## The region's record -/

/-- What a device carries to the region, before the cells are opened. -/
def Tk (c : Dev nD) : sProp 𝕄 := iprop((∃ K, records (kv m) K ∗ linear c) ∗ credits c)

theorem own_eq (c : Dev nD) : (Pipeline.ownSems0 osem c : sProp 𝕄) = zeros c := by unfold Pipeline.ownSems0 zeros; rfl

theorem hopen (c : Dev nD) : iprop(Tk m c ∗ Pipeline.ownSems0 osem c ∗ levAts L lv) ⊢ (|={Set.univ}=> Xk m c : sProp 𝕄) := by
  rw [own_eq]
  unfold Tk Xk zeros
  iintro ⟨⟨⟨%K, #HR, Hl⟩, Hcr⟩, Hz, #Hlev⟩
  ihave Hup := (open_cells (kv m) K c) $$ [Hl Hz]
  · isplitr; · iexact HR
    isplitl [Hl]; · iexact Hl
    iexact Hz
  imod Hup with Hop
  imodintro
  isplitl [Hop]
  · iexists K; isplitr; · iexact HR
    iexact Hop
  isplitl [Hcr]; · iexact Hcr
  iexact Hlev

theorem scratch_eq (c : Dev nD) : (Pipeline.scopedRest (Pipeline.pin (pcfgs (F := F)) adm 0).spec c : sProp 𝕄) = scratch c :=
  scopedRest0_eq c

theorem held_none (c : Dev nD) (W : Valuation τ sig (Elt F)) : (StableHlo.held (c.tc : Thread nD τ) ∅ W : sProp 𝕄) = BI.emp := BI.bigSep_empty

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (pdats m 0 c).Φ 0 = iprop(Xk m c ∗ scratch c ∗ ∃ r, prngReg c r) from rfl, scratch_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (bar c) 0) := by
  rw [show (pdats m 0 c).Φ (Fin.last _) = iprop((semVal (bar c) 0 ∗ zeros c) ∗ scratch c ∗ ∃ r, prngReg c r) from rfl, scratch_eq,
    held_none, own_eq]
  iintro ⟨⟨Hb, Hz⟩, Hs, Hp⟩
  isplitl [Hs]; · iexact Hs
  isplitl [Hp]; · iexact Hp
  isplitr; · iempintro
  isplitl [Hz]; · iexact Hz
  iexact Hb

theorem cut (c : Dev nD) (t : Fin ((Pipeline.pin (pcfgs (F := F)) adm 0).N + 1)) (g : GSem nD τ sig) (u : Unit)
    (h : 0 < (pdats m 0 c).owed t g u) : u ∈ L g ∧ (0 : ℕ) < lv g u := by
  rw [show (pdats m 0 c).owed t = if t.val = 0 then owed0 c else 0 from rfl] at h
  cases u
  split at h
  · rcases owed0_pos h with ⟨j, hj, rfl⟩ | ⟨s, rfl⟩
    · exact ⟨mem_item c j (), by rw [item_lv c j hj]; omega⟩
    · exact ⟨mem_bar _ (), Nat.one_pos⟩
  · exact absurd h (Nat.lt_irrefl 0)

theorem stage_lv : ∀ (w : Fin 4) (s : Fin (spec0 w).nbuf), lvS (.dma ((spec0 w).sem s)) ≤ 0 := by decide

/-- The buffers no window is over. -/
def others : Finset (DevRef τ sig) := Pipeline.ucRefs τ sig \ Pipeline.arrRefs (τ := τ) spec0

theorem arrRefs_sub : Pipeline.arrRefs (τ := τ) spec0 ⊆ Pipeline.ucRefs τ sig :=
  Pipeline.arrRefs_sub_ucRefs spec0 launch0.win.arr_unscoped

theorem out_mem : (Proc.devRef .tc main_v19 : DevRef τ sig) ∈ Pipeline.arrRefs (τ := τ) spec0 :=
  Finset.mem_map_of_mem _ (Finset.mem_image.mpr ⟨3, Finset.mem_univ _, rfl⟩)

theorem kept (c : Dev nD) (b : DevRef τ sig) (h : b ≠ Proc.devRef .tc main_v19) : V₂ m c b = V₁ m c b := Function.update_of_ne h ..
theorem new (c : Dev nD) : V₂ m c (Proc.devRef .tc main_v19) = outOf (kv m) (qs m c) c := Function.update_self ..

theorem others_kept (c : Dev nD) (b : DevRef τ sig) (hb : b ∈ others) : V₂ m c b = V₁ m c b :=
  kept m c b fun h => (Finset.mem_sdiff.mp hb).2 (by rw [h]; exact out_mem)

theorem arr_end (c : Dev nD) : ∀ w : Fin 4, (dat m c).arrAt w cfg0.N = V₂ m c (Proc.devRef .tc (Pipeline.arrRef spec0 w))
  | 0 => ((dat m c).arrAt_in 0 rfl _).trans (kept m c (Proc.devRef .tc main_v4) (by decide)).symm
  | 1 => ((dat m c).arrAt_in 1 rfl _).trans (kept m c (Proc.devRef .tc main_v13) (by decide)).symm
  | 2 => ((dat m c).arrAt_in 2 rfl _).trans (kept m c (Proc.devRef .tc main_v18) (by decide)).symm
  | 3 => (out_eq m c).trans (new m c).symm

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) launch0.toP rfl (fun c => (obligation m c).loose)
    (fun _ => 0) owed0 (fun c => (zero_add _).symm) (fun _ => rfl) (fun _ => rfl) (share_eq m)
    (V₁ m) (V₂ m) (fun c b hb => others_kept m c b (Finset.mem_sdiff.mp hb).1)
    (Tk m) (fun c => semVal (bar c) 0) (Xk m) (fun c => semVal (bar c) 0) (hopen m) (hin m) (hout m)
    (fun c => by iintro H; imodintro; iexact H)
    (fun _ => 0)
    ⟨fun c w s => by rw [L_tc]; exact Finset.mem_singleton_self _, fun c w s => stage_lv w s, fun c t g u h => cut m c t g u h⟩
    (fun _ => iprop(emp))
    (fun _ _ => rfl) (arr_end m)

end Cert.Ring

end
-- ==== Proof.Operands.lean ====
/-
  What the host operations around the launch make of a device's arguments: the scaled queries, the two halves of the keys and values,
  and the result in the layout of the arguments, element by element.
-/
module

public import proofs.«01_k».proof.Proof.Heads
public import proofs.«01_k».proof.Proof.Region

@[expose] public section

set_option maxRecDepth 16384

noncomputable section

namespace Cert.Ring

open Cert.KernelIdeal Cert.KernelIdeal.Gen

open Idealize.ShloMosaic
open Idealize.ShloMosaic.TcCoe
open Idealize.SL.Sem

/-- The row of batch `B`, head `h` in the arrays of heads. -/
def row (B : Fin 2) (h : Fin 8) : Fin 16 := ⟨B.val * 8 + h.val, by omega⟩
/-- The place of key `n` of the half that travels in direction `s` among a device's keys. -/
def off (s : Bool) (n : Fin 128) : Fin 256 := ⟨(if s then 0 else 128) + n.val, by split <;> omega⟩

/-- The queries by head, scaled. -/
def qOf (a : FVec Ideal S2x256x8x64 .f32) : FVec Ideal S16x256x64 .f32 :=
  shapeCast S16x256x64 (mulf (transpose S2x8x256x64 [0, 2, 1, 3] a transposes_S2x256x8x64_S2x8x256x64_0_2_1_3)
    (broadcastInDim S2x8x256x64 ![] bcast_S_S2x8x256x64 (constant S_ .f32 0x3E000000#32))) shapeCasts_S2x8x256x64_S16x256x64
/-- The keys, or the values, by head, one per column. -/
def keysOf (a : FVec Ideal S2x256x8x64 .f32) : FVec Ideal S16x64x256 .f32 :=
  shapeCast S16x64x256 (transpose S2x8x64x256 [0, 2, 3, 1] a transposes_S2x256x8x64_S2x8x64x256_0_2_3_1) shapeCasts_S2x8x64x256_S16x64x256
/-- Keys and values in one array. -/
def pair (x y : FVec Ideal S16x64x128 .f32) : FVec Ideal S2x16x64x128 .f32 :=
  concatenate S2x16x64x128 0 [⟨S1x16x64x128, broadcastInDim S1x16x64x128 ![1, 2, 3] bcast_S16x64x128_S1x16x64x128_1_2_3 x⟩,
    ⟨S1x16x64x128, broadcastInDim S1x16x64x128 ![1, 2, 3] bcast_S16x64x128_S1x16x64x128_1_2_3 y⟩] concatenates_S1x16x64x128_S1x16x64x128_S2x16x64x128_d0
/-- The result in the layout of the arguments. -/
def outCast (o : FVec Ideal S16x256x64 .f32) : FVec Ideal S2x256x8x64 .f32 :=
  transpose S2x256x8x64 [0, 2, 1, 3] (shapeCast S2x8x256x64 o shapeCasts_S16x256x64_S2x8x256x64) transposes_S2x8x256x64_S2x256x8x64_0_2_1_3

variable (m : (ℓ : Loc nD τ sig) → Buf (Elt Ideal) ℓ) (c : Dev nD)

/-- A device's queries, keys and values. -/
def argQ : FVec Ideal S2x256x8x64 .f32 := m ((c.tc : Thread nD τ).loc main_arg0)
def argK : FVec Ideal S2x256x8x64 .f32 := m ((c.tc : Thread nD τ).loc main_arg1)
def argV : FVec Ideal S2x256x8x64 .f32 := m ((c.tc : Thread nD τ).loc main_arg2)

theorem qs_eq : qs m c = qOf (argQ m c) := by
  show StableHlo.after hostOps0 (V₀ m c) (Proc.devRef .tc main_v4) = _
  after_results
  rfl
theorem kv_true : kv m true c = pair (extractStridedSlice S16x64x128 ![0, 0, 0] (keysOf (argK m c)) slices_S16x64x256_S16x64x128_0_0_0)
   (extractStridedSlice S16x64x128 ![0, 0, 0] (keysOf (argV m c)) slices_S16x64x256_S16x64x128_0_0_0) := by
  show StableHlo.after hostOps0 (V₀ m c) (Proc.devRef .tc main_v13) = _
  after_results
  rfl
theorem kv_false : kv m false c = pair (extractStridedSlice S16x64x128 ![0, 0, 128] (keysOf (argK m c)) slices_S16x64x256_S16x64x128_0_0_128)
   (extractStridedSlice S16x64x128 ![0, 0, 128] (keysOf (argV m c)) slices_S16x64x256_S16x64x128_0_0_128) := by
  show StableHlo.after hostOps0 (V₀ m c) (Proc.devRef .tc main_v18) = _
  after_results
  rfl
theorem result_eq : V₃ m c (Proc.devRef .tc main_v21) = outCast (outOf (kv m) (qs m c) c) := by
  have h := new m c
  show StableHlo.after hostOps1 (V₂ m c) (Proc.devRef .tc main_v21) = _
  after_results
  rw [← h]
  rfl
theorem qOf_at (a) (B : Fin 2) (h : Fin 8) (i : Fin 256) (e : Fin 64) :
    qOf a (ix3 (row B h) i e) = a (ix4 B i h e) * Ideal.ofBits .f32 0x3E000000#32 := by
  unfold qOf row
  pointwise
theorem keysOf_at (a) (B : Fin 2) (h : Fin 8) (i : Fin 256) (e : Fin 64) :
    keysOf a (ix3 (row B h) e i) = a (ix4 B i h e) := by
  unfold keysOf row
  pointwise
theorem pair_0 (x y) (b : Fin 16) (n : Fin 128) (e : Fin 64) : pair x y (ix4 0 b e n) = x (ix3 b e n) := by
  unfold pair
  pointwise
theorem pair_1 (x y) (b : Fin 16) (n : Fin 128) (e : Fin 64) : pair x y (ix4 1 b e n) = y (ix3 b e n) := by
  unfold pair
  pointwise
theorem first_half (x : FVec Ideal S16x64x256 .f32) (b : Fin 16) (n : Fin 128) (e : Fin 64) :
  extractStridedSlice S16x64x128 ![0, 0, 0] x slices_S16x64x256_S16x64x128_0_0_0 (ix3 b e n) = x (ix3 b e (off true n)) := by
  unfold off
  pointwise
theorem second_half (x : FVec Ideal S16x64x256 .f32) (b : Fin 16) (n : Fin 128) (e : Fin 64) :
  extractStridedSlice S16x64x128 ![0, 0, 128] x slices_S16x64x256_S16x64x128_0_0_128 (ix3 b e n) = x (ix3 b e (off false n)) := by
  unfold off
  pointwise
  rfl
theorem outCast_at (o) (B : Fin 2) (h : Fin 8) (i : Fin 256) (d : Fin 64) : outCast o (ix4 B i h d) = o (ix3 (row B h) i d) := by
  unfold outCast row
  pointwise

/-! ## The result -/

theorem keys_at (s : Bool) (B : Fin 2) (h : Fin 8) (n : Fin 128) (e : Fin 64) :
    kv m s c (ix4 0 (row B h) e n) = argK m c (ix4 B (off s n) h e) := by
  cases s
  · rw [kv_false, pair_0, second_half, keysOf_at]
  · rw [kv_true, pair_0, first_half, keysOf_at]

theorem values_at (s : Bool) (B : Fin 2) (h : Fin 8) (n : Fin 128) (e : Fin 64) :
    kv m s c (ix4 1 (row B h) e n) = argV m c (ix4 B (off s n) h e) := by
  cases s
  · rw [kv_false, pair_1, second_half, keysOf_at]
  · rw [kv_true, pair_1, first_half, keysOf_at]

/-- The weight that query `i` of device `c` gives key `p` of device `c'`. -/
def weightOf (c' : Dev nD) (B : Fin 2) (h : Fin 8) (i p : Fin 256) : EReal :=
  Ideal.exp (∑ e : Fin 64, argQ m c (ix4 B i h e) * Ideal.ofBits .f32 0x3E000000#32 * argK m c' (ix4 B p h e))

theorem weight_eq (s : Bool) (c' : Dev nD) (B : Fin 2) (h : Fin 8) (i : Fin 256) (n : Fin 128) :
    weight (qs m c) (kv m s c') (row B h) i n = weightOf m c c' B h i (off s n) := by
  unfold weight weightOf
  simp only [keys_at, qs_eq, qOf_at]

/-- The result of device `c`, one element of it, from the arguments of all the devices. -/
theorem result_at (B : Fin 2) (i : Fin 256) (h : Fin 8) (d : Fin 64) :
    V₃ m c (Proc.devRef .tc main_v21) (ix4 B i h d) = Ideal.div
      (inOrder fun s j n => weightOf m c (back s j c) B h i (off s n) * argV m (back s j c) (ix4 B (off s n) h d))
      (inOrder fun s j n => weightOf m c (back s j c) B h i (off s n)) := by
  rw [result_eq, outCast_at, outOf_at]
  simp only [weight_eq, values_at]

end Cert.Ring

end
-- ==== Proof.Keys.lean ====
/-
  The keys in the order a device meets them are all the keys of its ring, each once.
-/
module

public import proofs.«01_k».proof.Proof.Operands
public import Idealize.ShloMosaic.Lib.Layout

@[expose] public section

set_option maxRecDepth 16384

noncomputable section

namespace Cert.Ring

open Cert.KernelIdeal Cert.KernelIdeal.Gen

open Idealize.ShloMosaic
open Idealize.ShloMosaic.TcCoe
open Idealize.SL.Sem

/-- A device's place on its ring. -/
def place (c : Dev nD) : Fin 4 := ⟨c.val / 4 % 4, Nat.mod_lt _ (by norm_num)⟩
/-- The place in the whole arrays of position `p` of the block at place `y`. -/
def key (y : Fin 4) (p : Fin 256) : Fin 1024 := ⟨y.val * 256 + p.val, by omega⟩

/-- Which place's block direction `s` brings to place `y` at hop `j`. -/
def from_ (s : Bool) (j : ℕ) (y : Fin 4) : Fin 4 := (fun z => if s then z + 3 else z + 1)^[j] y

theorem place_frm (s : Bool) (c : Dev nD) : place (frmD s c) = if s then place c + 3 else place c + 1 := by
  revert s c; decide +kernel

theorem place_back (s : Bool) (j : ℕ) : ∀ c : Dev nD, place (back s j c) = from_ s j (place c) := by
  induction j with
  | zero => intro c; rfl
  | succ j ih =>
    intro c
    show place (back s j (frmD s c)) = _
    rw [ih, place_frm]
    exact (Function.iterate_succ_apply _ j (place c)).symm

/-- All the keys, by the block and the half of the block they lie in. -/
theorem sum_keys (g : Fin 1024 → EReal) :
    ∑ J, g J = ∑ y : Fin 4, (∑ n, g (key y (off true n)) + ∑ n, g (key y (off false n))) := by
  have h1 : ∑ J, g J = ∑ y : Fin 4, ∑ p : Fin 256, g (key y p) := by
    rw [← Fintype.sum_prod_type', ← (finProdFinEquiv (m := 4) (n := 256)).sum_comp]
    refine Finset.sum_congr rfl fun x _ => congrArg g (Fin.ext ?_)
    show x.2.val + 256 * x.1.val = x.1.val * 256 + x.2.val
    omega
  rw [h1]
  refine Finset.sum_congr rfl fun y _ => ?_
  exact (Fin.sum_univ_add (a := 128) (b := 128) (f := fun p => g (key y p))).trans
    (congrArg₂ (· + ·) (Finset.sum_congr rfl fun n _ => congrArg (fun p => g (key y p)) (Fin.ext (Nat.zero_add n.val).symm)) rfl)

theorem inOrder_keys (g : Fin 1024 → EReal) (c : Dev nD) :
    inOrder (fun s j n => g (key (place (back s j c)) (off s n))) = ∑ J, g J := by
  rw [sum_keys]
  unfold inOrder
  simp only [place_back, List.map_cons, List.map_nil, List.sum_cons, List.sum_nil]
  generalize place c = y
  generalize hG : (fun (s : Bool) (z : Fin 4) => ∑ n, g (key z (off s n))) = G
  have h : ∀ s z, ∑ n, g (key z (off s n)) = G s z := fun s z => congrFun (congrFun hG s) z
  simp only [h, Fin.sum_univ_four]
  have hy : y = 0 ∨ y = 1 ∨ y = 2 ∨ y = 3 := by revert y; decide
  have ht : ∀ z : Fin 4, from_ true 0 z = z ∧ from_ true 1 z = z + 3 ∧ from_ true 2 z = z + 2 ∧ from_ true 3 z = z + 1 := by decide
  have hf : ∀ z : Fin 4, from_ false 0 z = z ∧ from_ false 1 z = z + 1 ∧ from_ false 2 z = z + 2 ∧ from_ false 3 z = z + 3 := by decide
  rw [(ht y).1, (ht y).2.1, (ht y).2.2.1, (ht y).2.2.2, (hf y).1, (hf y).2.1, (hf y).2.2.1, (hf y).2.2.2, add_zero]
  have e : (1 + 3 : Fin 4) = 0 ∧ (1 + 2 : Fin 4) = 3 ∧ (1 + 1 : Fin 4) = 2 ∧ (2 + 3 : Fin 4) = 1 ∧ (2 + 2 : Fin 4) = 0 ∧ (2 + 1 : Fin 4) = 3
    ∧ (3 + 3 : Fin 4) = 2 ∧ (3 + 2 : Fin 4) = 1 ∧ (3 + 1 : Fin 4) = 0 := by decide
  obtain ⟨e1, e2, e3, e4, e5, e6, e7, e8, e9⟩ := e
  rcases hy with rfl | rfl | rfl | rfl
  · rw [zero_add, zero_add, zero_add]
    ac_rfl
  · rw [e1, e2, e3]
    ac_rfl
  · rw [e4, e5, e6]
    ac_rfl
  · rw [e7, e8, e9]
    ac_rfl

/-- The block of device `c` reads the whole array at its own place on the ring. -/
theorem block_at {α : Type} (v : Shape.Idx ⟨4, ![2, 1024, 8, 64]⟩ → α) (c : Dev nD) (B : Fin 2) (p : Fin 256) (h : Fin 8) (e : Fin 64) :
    Layout.blockN ⟨4, ![2, 256, 8, 64]⟩ ⟨4, ![2, 1024, 8, 64]⟩ (Layout.meshBlock [2, 4, 4] ![[], [1], [], []] c) v (by decide) (ix4 B p h e)
      = v (ix4 B (key (place c) p) h e) := by
  rw [Layout.blockN_apply]
  refine congrArg v (funext fun a => Fin.ext ?_)
  rw [Layout.TilesN.idx_val]
  fin_cases a
  · show 0 * 2 + B.val = B.val
    omega
  · show (c.val / 4 % 4 * 1 + 0) * 256 + p.val = c.val / 4 % 4 * 256 + p.val
    omega
  · show 0 * 8 + h.val = h.val
    omega
  · show 0 * 64 + e.val = e.val
    omega

end Cert.Ring

end
-- ==== Proof.Softmax.lean ====
/-
  The weighted mean of some values by exponentials of real scores, over the extended reals: dividing the weighted sum by the sum of the
  weights gives what dividing each weight gives, whether or not the largest score is taken off first.
-/
module

public import Idealize.ShloMosaic.Lib.Pointwise

@[expose] public section

noncomputable section

namespace Cert.Softmax

open Idealize.ShloMosaic

variable {ι : Type} [Fintype ι]

theorem exp_real (r : ℝ) : Ideal.exp (r : EReal) = ((Real.exp r : ℝ) : EReal) := rfl

theorem sum_real (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_mul_real (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem div_real (x : EReal) (r : ℝ) (hr : 0 < r) : Ideal.div x (r : EReal) = x * ((r⁻¹ : ℝ) : EReal) := by
  have h : ((r : ℝ) : EReal) ≠ 0 := by
    rw [Ne, ← EReal.coe_zero, EReal.coe_eq_coe_iff]
    exact hr.ne'
  unfold Ideal.div
  rw [if_neg h, EReal.coe_inv]

/-- The largest of some real scores is a real. -/
theorem max_real (s : Finset ι) (hs : s.Nonempty) (f : ι → ℝ) : ∃ M : ℝ, (s.fold max ⊥ fun i => ((f i : ℝ) : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- Dividing at the end, without taking anything off the scores, is dividing each weight, with the largest score taken off. -/
theorem softmax [Nonempty ι] (f : ι → ℝ) (v : ι → EReal) :
    Ideal.div (∑ i, Ideal.exp (f i : EReal) * v i) (∑ i, Ideal.exp (f i : EReal))
      = ∑ i, v i * Ideal.div (Ideal.exp ((f i : EReal) - Finset.univ.fold max ⊥ fun j => ((f j : ℝ) : EReal)))
          (∑ k, Ideal.exp ((f k : EReal) - Finset.univ.fold max ⊥ fun j => ((f j : ℝ) : EReal))) := by
  obtain ⟨M, hM⟩ := max_real Finset.univ Finset.univ_nonempty f
  have hL : 0 < ∑ i, Real.exp (f i) := Finset.sum_pos (fun i _ => Real.exp_pos _) Finset.univ_nonempty
  have hL' : 0 < ∑ i, Real.exp (f i - M) := Finset.sum_pos (fun i _ => Real.exp_pos _) Finset.univ_nonempty
  have hs : ∑ i, Real.exp (f i - M) = (∑ i, Real.exp (f i)) * Real.exp (-M) := by
    rw [Finset.sum_mul]
    exact Finset.sum_congr rfl fun i _ => by rw [sub_eq_add_neg, Real.exp_add]
  rw [hM]
  simp only [exp_real, ← EReal.coe_sub, sum_real]
  rw [div_real _ _ hL, sum_mul_real _ _ _ (inv_nonneg.mpr hL.le)]
  refine Finset.sum_congr rfl fun i _ => ?_
  rw [div_real _ _ hL', mul_comm (((Real.exp (f i) : ℝ) : EReal)) (v i), mul_assoc, ← EReal.coe_mul, ← EReal.coe_mul, hs, mul_inv,
    sub_eq_add_neg, Real.exp_add]
  congr 2
  have := (Real.exp_pos (-M)).ne'
  field_simp

/-! ## Constants -/

theorem minus_infinity : Ideal.ofBits .f32 0xFF800000#32 = ⊥ := by simp [Ideal.ofBits, Ideal.ieee]
theorem plus_infinity : Ideal.ofBits .f32 0x7F800000#32 = ⊤ := by simp [Ideal.ofBits, Ideal.ieee]
theorem eighth : Ideal.ofBits .f32 0x3E000000#32 = (((1 : ℝ) / 8 : ℝ) : EReal) := by
  simp [Ideal.ofBits, Ideal.ieee, -EReal.coe_mul]; norm_num

/-! ## Scores -/

/-- The score of real entries, scaled before or after the sum over the entries, is one real number. -/
theorem score_before (q k : ι → ℝ) (t : ℝ) :
    (∑ i, (q i : EReal) * (t : EReal) * (k i : EReal)) = (((∑ i, q i * k i) * t : ℝ) : EReal) := by
  simp only [← EReal.coe_mul, sum_real]
  congr 1
  rw [Finset.sum_mul]
  exact Finset.sum_congr rfl fun i _ => by ring

theorem score_after (q k : ι → ℝ) (t : ℝ) :
    (∑ i, (q i : EReal) * (k i : EReal)) * (t : EReal) = (((∑ i, q i * k i) * t : ℝ) : EReal) := by
  simp only [← EReal.coe_mul, sum_real]

end Cert.Softmax

end
-- ==== Proof.Reference.lean ====
/-
  The reference's result over the extended reals, element by element.
-/
module

public import proofs.«01_k».proof.Proof.Gen.ReferenceIdeal.Run
public import proofs.«01_k».proof.Proof.Softmax

@[expose] public section

set_option maxRecDepth 16384

noncomputable section

namespace Cert.Attention

open Cert.ReferenceIdeal Cert.ReferenceIdeal.Gen

open Idealize.ShloMosaic
open Idealize.ShloMosaic.TcCoe

/-- The scaled scores of all queries against all keys, by batch and head. -/
def scores (q k : FVec Ideal S2x1024x8x64 .f32) : FVec Ideal S2x8x1024x1024 .f32 :=
  mulf (Host.dotGeneral dot_S2x1024x8x64_S2x1024x8x64_S2x8x1024x1024_3_3_1_1_02_02 none q k)
    (broadcastInDim S2x8x1024x1024 ![] bcast_S_S2x8x1024x1024 (constant S_ .f32 0x3E000000#32))
/-- A value per query, repeated for every key. -/
def spread (x : FVec Ideal S2x8x1024 .f32) : FVec Ideal S2x8x1024x1024 .f32 :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 x)
/-- The largest score of a query. -/
def largest (s : FVec Ideal S2x8x1024x1024 .f32) : FVec Ideal S2x8x1024 .f32 :=
  Host.reduce FloatOps.maximumf s (constant S_ .f32 0xFF800000#32) reducesTo_S2x8x1024x1024_S2x8x1024_d3 h_S_
/-- The sum of a query's weights. -/
def total (w : FVec Ideal S2x8x1024x1024 .f32) : FVec Ideal S2x8x1024 .f32 :=
  Host.reduceAdd w (constant S_ .f32 0x00000000#32) reducesTo_S2x8x1024x1024_S2x8x1024_d3 h_S_
/-- The weights before they are divided by their sum. -/
def weights (s : FVec Ideal S2x8x1024x1024 .f32) : FVec Ideal S2x8x1024x1024 .f32 := Host.exp (subf s (spread (largest s)))
/-- The reference's result. -/
def attention (q k v : FVec Ideal S2x1024x8x64 .f32) : FVec Ideal S2x1024x8x64 .f32 :=
  transpose S2x1024x8x64 [0, 3, 1, 2] (Host.dotGeneral dot_S2x1024x8x64_S2x8x1024x1024_S2x8x64x1024_1_3_3_2_02_01 none v
    (Host.divf (weights (scores q k)) (spread (total (weights (scores q k)))))) transposes_S2x8x64x1024_S2x1024x8x64_0_3_1_2

theorem scores_at (q k : FVec Ideal S2x1024x8x64 .f32) (B : Fin 2) (h : Fin 8) (I J : Fin 1024) :
    scores q k (ix4 B h I J) = (∑ e : Fin 64, q (ix4 B I h e) * k (ix4 B J h e)) * Ideal.ofBits .f32 0x3E000000#32 := by
  unfold scores
  pointwise

theorem spread_at (x : FVec Ideal S2x8x1024 .f32) (B : Fin 2) (h : Fin 8) (I J : Fin 1024) : spread x (ix4 B h I J) = x (ix3 B h I) := by
  unfold spread
  pointwise

theorem largest_at (s : FVec Ideal S2x8x1024x1024 .f32) (B : Fin 2) (h : Fin 8) (I : Fin 1024) :
    largest s (ix3 B h I) = Finset.univ.fold max ⊥ fun J : Fin 1024 => s (ix4 B h I J) := by
  unfold largest
  pointwise
  rw [Softmax.minus_infinity]

theorem total_at (w : FVec Ideal S2x8x1024x1024 .f32) (B : Fin 2) (h : Fin 8) (I : Fin 1024) :
    total w (ix3 B h I) = ∑ J : Fin 1024, w (ix4 B h I J) := by
  unfold total
  pointwise

theorem weights_at (s : FVec Ideal S2x8x1024x1024 .f32) (B : Fin 2) (h : Fin 8) (I J : Fin 1024) :
    weights s (ix4 B h I J) = Ideal.exp (s (ix4 B h I J) - Finset.univ.fold max ⊥ fun J : Fin 1024 => s (ix4 B h I J)) := by
  unfold weights
  pointwise
  rw [spread_at, largest_at]

theorem attention_at (q k v : FVec Ideal S2x1024x8x64 .f32) (B : Fin 2) (I : Fin 1024) (h : Fin 8) (d : Fin 64) :
    attention q k v (ix4 B I h d) = ∑ J : Fin 1024, v (ix4 B J h d)
      * Ideal.div (weights (scores q k) (ix4 B h I J)) (∑ J : Fin 1024, weights (scores q k) (ix4 B h I J)) := by
  unfold attention
  pointwise
  simp only [spread_at, total_at]

end Cert.Attention

end
-- ==== Proof.Launch.lean ====
/-
  The launch: the whole program's run on the thirty-two devices, from any memory with every counter at zero.
-/
module

public import proofs.«01_k».proof.Proof.Region

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

theorem osem_ne_bar : ∀ i : XI, osem i ≠ .reg barS := by decide

theorem cell_ext {t t' : Dev nD} {a b : SemLoc sig} (h : (((t : Thread nD τ), a) : GSem nD τ sig) = ((t' : Thread nD τ), b)) : t = t' ∧ a = b :=
  ⟨congrArg (fun g : GSem nD τ sig => g.1.1) h, congrArg Prod.snd h⟩

def barAt : Dev nD ↪ GSem nD τ sig := ⟨fun c => bar c, fun _ _ h => (cell_ext h).1⟩
def xAt : Dev nD × XI ↪ GSem nD τ sig :=
  ⟨fun p => ((p.1 : Thread nD τ), osem p.2), fun _ _ h => Prod.ext (cell_ext h).1 (osem_inj (cell_ext h).2)⟩

/-- The barrier cells, whose counters the launch deals, and the exchange's, whose counters the region brings. -/
abbrev bars : Finset (GSem nD τ sig) := Finset.univ.map barAt
abbrev xs : Finset (GSem nD τ sig) := Finset.univ.map xAt

theorem bars_xs : Disjoint bars xs := by
  rw [Finset.disjoint_left]
  intro g h1 h2
  obtain ⟨c, -, rfl⟩ := Finset.mem_map.mp h1
  obtain ⟨p, -, h⟩ := Finset.mem_map.mp h2
  exact osem_ne_bar p.2 (cell_ext h).2

/-- A duty of a device's cells: one of the two of its barrier cell, or the one of a cell of the exchange. -/
abbrev dutySem : Bool ⊕ XI → SemLoc sig | .inl _ => .reg barS | .inr i => osem i
abbrev dutyOf : Bool ⊕ XI → Bool | .inl d => d | .inr _ => false
theorem duty_inj : Function.Injective fun k : Bool ⊕ XI => (dutySem k, dutyOf k) := by decide

def minted : Finset (GSem nD τ sig × ℕ × Bool) :=
  Finset.univ.map ⟨fun p : Dev nD × (Bool ⊕ XI) => (((p.1 : Thread nD τ), dutySem p.2), 0, dutyOf p.2), fun _ _ h =>
    have hc := cell_ext (congrArg Prod.fst h)
    Prod.ext hc.1 (duty_inj (Prod.ext hc.2 (congrArg (fun t : GSem nD τ sig × ℕ × Bool => t.2.2) h)))⟩

def launchElt : UU :=
  (initOf (Pipeline.cells (Pipeline.pin (pcfgs (F := F)) adm) cellOf_inj) (Pipeline.launchToks (Pipeline.pin (pcfgs (F := F)) adm) cellOf_inj),
    launchOf bars xs minted)

/-! ## Who pays which duty -/

theorem bool_sep (Φ : Bool → sProp 𝕄) : bigSep Finset.univ Φ = iprop(Φ true ∗ Φ false) := by
  rw [bigSep_univ_eq_bigSepL [true, false] (by decide) (by decide), bigSepL_cons_cons, bigSepL_singleton]
  rfl

theorem sep_swap (P Q : sProp 𝕄) : iprop(P ∗ Q) = iprop(Q ∗ P) := by
  have h1 : iprop(P ∗ Q) ⊢ (iprop(Q ∗ P) : sProp 𝕄) := sep_comm.1
  have h2 : iprop(Q ∗ P) ⊢ (iprop(P ∗ Q) : sProp 𝕄) := sep_comm.1
  exact BI.equiv_iff.mp ⟨h1, h2⟩

/-- The device whose duty at a cell of `c`'s is: the neighbour for a receive cell, itself for a send cell. -/
def payer (p : Dev nD × XI) : Dev nD := if p.2.2.1 then toD p.2.1 p.1 else p.1
def payers : Dev nD × XI ≃ Dev nD × XI where
  toFun p := (payer p, p.2)
  invFun p := (if p.2.2.1 then frmD p.2.1 p.1 else p.1, p.2)
  left_inv := fun ⟨c, s, v, h⟩ => by
    unfold payer; cases v
    · rfl
    · show (frmD s (toD s c), s, true, h) = _; rw [frmD_toD]
  right_inv := fun ⟨c, s, v, h⟩ => by
    unfold payer; cases v
    · rfl
    · show (toD s (frmD s c), s, true, h) = _; rw [toD_frmD]

theorem x_toks : (bigSep Finset.univ fun p : Dev nD × XI => (dutyTok ER (xc p.2.1 p.2.2.1 p.2.2.2 p.1) 0 false : sProp 𝕄))
    = bigSep Finset.univ fun c : Dev nD => bigSep Finset.univ fun sh : Bool × Fin 3 => hopToks sh.1 sh.2 c := by
  rw [bigSep_univ_equiv payers, bigSep_univ_prod]
  refine bigSep_congr fun c _ => ?_
  rw [bigSep_univ_prod, bigSep_univ_prod]
  refine bigSep_congr fun s _ => ?_
  rw [bigSep_univ_prod, bool_sep]
  unfold hopToks
  rw [bigSep_sep']
  exact sep_swap _ _

theorem bar_toks (s : Bool) : (bigSep Finset.univ fun c : Dev nD => (dutyTok ER (bar c) 0 s : sProp 𝕄))
    = bigSep Finset.univ fun c : Dev nD => dutyTok ER (bar (frmD s c)) 0 s := bigSep_univ_equiv (turn s).symm _

theorem toks : (bigSep minted fun x => (dutyTok ER x.1 x.2.1 x.2.2 : sProp 𝕄)) = bigSep Finset.univ fun c : Dev nD => payToks c := by
  unfold minted payToks
  rw [bigSep_map, bigSep_univ_prod]
  have h (c : Dev nD) : (bigSep Finset.univ fun k : Bool ⊕ XI => (dutyTok ER ((c : Thread nD τ), dutySem k) 0 (dutyOf k) : sProp 𝕄))
      = iprop((dutyTok ER (bar c) 0 true ∗ dutyTok ER (bar c) 0 false)
        ∗ bigSep Finset.univ fun i : XI => dutyTok ER (xc i.1 i.2.1 i.2.2 c) 0 false) := by
    rw [bigSep_univ_sum, bool_sep]
    rfl
  refine (bigSep_congr fun c _ => h c).trans ?_
  rw [bigSep_sep', bigSep_sep', bigSep_sep', bigSep_sep', bar_toks true, bar_toks false, ← x_toks, bigSep_univ_prod]

/-! ## The credit dealt at launch -/

theorem x_eq_iff (s v s' v' : Bool) (h h' : Fin 3) (c d : Dev nD) : xc s v h c = xc s' v' h' d ↔ c = d ∧ (s, v, h) = (s', v', h') :=
  ⟨fun e => ⟨(cell_ext e).1, osem_inj (a₁ := (s, v, h)) (a₂ := (s', v', h')) (cell_ext e).2⟩, fun ⟨e1, e2⟩ => by
    obtain ⟨rfl, rfl, rfl⟩ := Prod.mk.inj e2 |>.imp id Prod.mk.inj
    rw [e1]⟩

theorem bar_eq_iff (c d : Dev nD) : bar c = bar d ↔ c = d := ⟨fun e => (cell_ext e).1, fun e => by rw [e]⟩
theorem bar_ne_x (s v : Bool) (h : Fin 3) (c d : Dev nD) : bar c ≠ xc s v h d := fun e => osem_ne_bar (s, v, h) (cell_ext e).2.symm

theorem owedX_bar (d c : Dev nD) (n : ℕ) : owedX d n (bar c) () = 0 := by
  by_contra h
  obtain ⟨j, -, e⟩ := owedX_pos (Nat.pos_of_ne_zero h)
  exact bar_ne_x _ _ _ _ _ e

theorem owedX_x (d c : Dev nD) (s : Bool) (h : Fin 3) : owedX d 6 (xc s true h c) () = if d = frmD s c then N else 0 := by
  have e : (c = toD s d) ↔ d = frmD s c := ⟨fun e => by rw [e, frmD_toD], fun e => by rw [e, toD_frmD]⟩
  have i5 : item d 5 = xc true true 0 (toD true d) := rfl
  have i4 : item d 4 = xc false true 0 (toD false d) := rfl
  have i3 : item d 3 = xc true true 1 (toD true d) := rfl
  have i2 : item d 2 = xc false true 1 (toD false d) := rfl
  have i1 : item d 1 = xc true true 2 (toD true d) := rfl
  have i0 : item d 0 = xc false true 2 (toD false d) := rfl
  simp only [owedX, Pi.add_apply, Finsupp.add_apply, tallyAt_apply, i0, i1, i2, i3, i4, i5, x_eq_iff, ← e]
  cases s <;> fin_cases h <;> simp

theorem owed0_bar (d c : Dev nD) : owed0 d (bar c) () = (if d = toD false c then 1 else 0) + if d = toD true c then 1 else 0 := by
  have e (s : Bool) : (c = frmD s d) ↔ d = toD s c := ⟨fun e => by rw [e, toD_frmD], fun e => by rw [e, frmD_toD]⟩
  unfold owed0 owed1
  simp only [Pi.add_apply, Finsupp.add_apply, tallyAt_apply, owedX_bar, bar_eq_iff, e, and_true, Nat.zero_add]

theorem owed0_x (d c : Dev nD) (s : Bool) (h : Fin 3) : owed0 d (xc s true h c) () = if d = frmD s c then N else 0 := by
  unfold owed0 owed1
  simp only [Pi.add_apply, Finsupp.add_apply, owedX_x, tallyAt_ne_cell (bar_ne_x s true h _ c).symm, Finsupp.zero_apply, Nat.add_zero]

theorem dealt_bar (c : Dev nD) :
    tallyOn (bar c) (launchCredit (Pipeline.owing owed0) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed0_bar d c, Finset.sum_add_distrib,
    Finset.sum_ite_eq' Finset.univ (toD false c) fun _ => 1, Finset.sum_ite_eq' Finset.univ (toD true c) fun _ => 1,
    if_pos (Finset.mem_univ _), if_pos (Finset.mem_univ _)]

theorem dealt_x (c : Dev nD) (s : Bool) (h : Fin 3) :
    tallyOn (xc s true h c) (launchCredit (Pipeline.owing owed0) 0 (xc s true h c)) = (tallyAt (xc s true h c) () N : CellTallies nD τ sig Unit) := by
  unfold tallyAt; refine congrArg _ (Finsupp.ext fun u => ?_); cases u
  rw [Pipeline.launchCredit_owing, Finsupp.single_eq_same, Finset.sum_congr rfl fun d _ => owed0_x d c s h,
    Finset.sum_ite_eq' Finset.univ (frmD s c) fun _ => N, if_pos (Finset.mem_univ _)]

def recvSem : Bool × Fin 3 ↪ SemLoc sig := ⟨fun sh => .dma (dq sh.1 true sh.2), by decide⟩

theorem creds (c : Dev nD) : (Pipeline.launchCred owed0 c : sProp 𝕄) ⊢ credits c := by
  unfold Pipeline.launchCred credits
  rw [bigSep_univ_at _ (SemLoc.reg barS), dealt_bar]
  refine sep_mono_right ((bigSep_subset (t := Finset.univ.map recvSem) fun sm h => ?_).trans ?_)
  · obtain ⟨sh, -, rfl⟩ := Finset.mem_map.mp h
    exact Finset.mem_erase.mpr ⟨osem_ne_bar (sh.1, true, sh.2), Finset.mem_univ _⟩
  · rw [bigSep_map]
    exact Entails.of_eq (bigSep_congr fun sh _ => congrArg _ (dealt_x c sh.1 sh.2))

/-! ## The first thread states -/

abbrev bufs : Finset (DevRef τ sig) := Pipeline.ucRefs τ sig

/-- What rides beside the buffers up to the region, and after it. -/
def ride (c : Dev nD) : sProp 𝕄 := iprop((∃ r, prngReg c r) ∗ Tk m c ∗ ∃ W, owes (c : Thread nD τ) (owed0 c) W)
def rest (c : Dev nD) : sProp 𝕄 := iprop(semVal (bar c) 0 ∗ ∃ W, owes (c : Thread nD τ) (0 : CellTallies nD τ sig Unit) W)

def first (c : Dev nD) : sProp 𝕄 := iprop(StableHlo.held (c.tc : Thread nD τ) bufs (V₀ m c) ∗ ride m c)
def last (c : Dev nD) : sProp 𝕄 := iprop(StableHlo.held (c.tc : Thread nD τ) bufs (V₃ m c) ∗ semVal (bar c) 0)

/-- The launch element of the exchange, whole, on one device until the cells are made. -/
def parked (c : Dev nD) : sProp 𝕄 := if c = 0 then BI.own (ER (launchOf bars xs minted)) else iprop(emp)

theorem parked_all : (bigSep Finset.univ parked : sProp 𝕄) = BI.own (ER (launchOf bars xs minted)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

/-- A device's launch holdings apart from the exchange's ghost state. -/
def own (c : Dev nD) : sProp 𝕄 :=
  iprop(StableHlo.held (c.tc : Thread nD τ) bufs (V₀ m c) ∗ credits c ∗ owes (c : Thread nD τ) (owed0 c) ∅ ∗ ∃ r, prngReg c r)

theorem first_of (K : GSem nD τ sig → ℕ) (c : Dev nD) : iprop(records (kv m) K ∗ (linear c ∗ own m c)) ⊢ first m c := by
  unfold own first ride Tk
  iintro ⟨#HR, Hl, Hh, Hcr, HO, Hp⟩
  isplitl [Hh]; · iexact Hh
  isplitl [Hp]; · iexact Hp
  isplitl [Hl Hcr]
  · isplitl [Hl]
    · iexists K; isplitr; · iexact HR
      iexact Hl
    iexact Hcr
  iexists ∅; iexact HO

theorem unscoped_eq : ∀ sm : SemLoc sig, sm.isScoped .tc = false → sm = .reg barS := by decide
theorem unscopedSems_eq (c : Dev nD) : (unscopedSems0 c : sProp 𝕄) = semVal (bar c) 0 := by
  unfold unscopedSems0
  rw [show (Finset.univ.filter fun sm : SemLoc sig => ¬ sm.isScoped .tc) = {SemLoc.reg barS} from by decide, BI.bigSep_singleton]

theorem deal (c : Dev nD) :
    iprop(unscopedBufs c (fun b => m ((c.tc : Thread nD τ).loc b)) ∗ unscopedSems0 c
        ∗ owes (c.tc : Thread nD τ) (owed0 c) ∅ ∗ Pipeline.launchCred owed0 c ∗ prngReg c (ρ c) ∗ parked c)
      ⊢ (iprop(own m c ∗ (semVal (bar c) 0 ∗ parked c)) : sProp 𝕄) := by
  rw [show unscopedBufs c (fun b => m ((c.tc : Thread nD τ).loc b)) = StableHlo.held (c.tc : Thread nD τ) bufs (V₀ m c)
    from Pipeline.unscopedBufs_held c (V₀ m c), unscopedSems_eq]
  unfold own
  iintro ⟨Hh, Hz, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hz] <;> iassumption

theorem to_bars (Φ : GSem nD τ sig → sProp 𝕄) : bigSep bars Φ = bigSep Finset.univ fun c : Dev nD => Φ (bar c) := bigSep_map barAt
theorem to_xs (Φ : GSem nD τ sig → sProp 𝕄) : bigSep xs Φ = bigSep Finset.univ fun p : Dev nD × XI => Φ (xc p.2.1 p.2.2.1 p.2.2.2 p.1) :=
  bigSep_map xAt

theorem both (Φ : GSem nD τ sig → sProp 𝕄) : bigSep (bars ∪ xs) Φ
    = iprop((bigSep Finset.univ fun c : Dev nD => Φ (bar c)) ∗ bigSep Finset.univ fun p : Dev nD × XI => Φ (xc p.2.1 p.2.2.1 p.2.2.2 p.1)) := by
  rw [BI.bigSep_union bars_xs, to_bars, to_xs]
  rfl

theorem records_of (K : GSem nD τ sig → ℕ) :
    iprop((bigSep (bars ∪ xs) fun g => cellInv ER (sched (kv m)) (K g) g) ∗ bigSep bars fun g => reached ER g 0) ⊢ records (kv m) K := by
  rw [both, to_bars]
  unfold records
  iintro ⟨⟨HB, HX⟩, HR⟩
  isplitl [HB]; · iexact HB
  isplitl [HX] <;> iassumption

theorem init :
    iprop((bigSep Finset.univ fun c : Dev nD => iprop(unscopedBufs c (fun b => m ((c.tc : Thread nD τ).loc b)) ∗ unscopedSems0 c
          ∗ owes (c.tc : Thread nD τ) (owed0 c) ∅ ∗ Pipeline.launchCred owed0 c ∗ prngReg c (ρ c) ∗ parked c)) ∗ levAts L lv)
      ⊢ (|={Set.univ}=> bigSep Finset.univ (first m) : sProp 𝕄) := by
  have h1 : (bigSep Finset.univ fun c : Dev nD => iprop(unscopedBufs c (fun b => m ((c.tc : Thread nD τ).loc b)) ∗ unscopedSems0 c
          ∗ owes (c.tc : Thread nD τ) (owed0 c) ∅ ∗ Pipeline.launchCred owed0 c ∗ prngReg c (ρ c) ∗ parked c))
      ⊢ (iprop(bigSep Finset.univ (own m) ∗ (bigSep bars (fun g => semVal g 0)) ∗ BI.own (ER (launchOf bars xs minted))) : sProp 𝕄) := by
    have e : (bigSep Finset.univ fun c : Dev nD => (iprop(own m c ∗ (semVal (bar c) 0 ∗ parked c)) : sProp 𝕄))
        = iprop(bigSep Finset.univ (own m) ∗ (bigSep bars (fun g => semVal g 0)) ∗ BI.own (ER (launchOf bars xs minted))) := by
      rw [bigSep_sep', bigSep_sep', parked_all, to_bars]
    rw [← e]
    exact bigSep_mono fun c _ => deal m ρ c
  have h2 : (iprop((bigSep bars fun g => atPos ER g 0 ∅ 0) ∗ (bigSep xs fun g => openTok ER g) ∗ bigSep minted fun x => dutyTok ER x.1 x.2.1 x.2.2) : sProp 𝕄)
      ⊢ bigSep Finset.univ fun c : Dev nD => linear c := by
    unfold linear
    rw [to_bars, to_xs, toks, bigSep_univ_prod, bigSep_sep', bigSep_sep']
  iintro ⟨H, -⟩
  ihave H := h1 $$ H
  icases H with ⟨Hown, Hz, Hu⟩
  imod (Rounds.fund_launch ER (sched (kv m)) bars_xs (fun g _ h => h) minted) $$ [Hz Hu] with ⟨%K, -, #Hinv, #Hr, Hat, Hop, Htok⟩
  · isplitl [Hz] <;> iassumption
  imodintro
  ihave Hlin := h2 $$ [Hat Hop Htok]
  · isplitl [Hat]; · iexact Hat
    isplitl [Hop] <;> iassumption
  iapply (bigSep_with_persistent (R := records (kv m) K) (Φ := fun c => iprop(linear c ∗ own m c)) fun c _ => first_of m K c)
  isplitr
  · iapply (records_of m K)
    isplitr; · iexact Hinv
    iexact Hr
  iapply Smoke.bigSep_pair
  isplitl [Hlin] <;> iassumption

/-! ## The run -/

/-- The buffers before the region, cut for it; and put together again after it. -/
theorem into (c : Dev nD) :
    iprop(StableHlo.held (c.tc : Thread nD τ) bufs (StableHlo.after hostOps0 (V₀ m c)) ∗ ride m c) ⊢ (region m).pre c := by
  show iprop(StableHlo.held (c.tc : Thread nD τ) bufs (V₁ m c) ∗ ride m c)
    ⊢ iprop(StableHlo.held (c.tc : Thread nD τ) (Pipeline.arrRefs ((pcfgs (F := F)) 0).spec) (V₁ m c) ∗ (∃ r, prngReg c r)
      ∗ (StableHlo.held (c.tc : Thread nD τ) others (V₁ m c) ∗ emp) ∗ Tk m c ∗ ∃ W, owes (c.tc : Thread nD τ) (0 + owed0 c) W)
  rw [StableHlo.held_sub_split (c.tc : Thread nD τ) arrRefs_sub (V₁ m c), zero_add]
  unfold ride
  iintro ⟨⟨HA, HB⟩, Hp, HT, HO⟩
  isplitl [HA]; · iexact HA
  isplitl [Hp]; · iexact Hp
  isplitl [HB]
  · isplitl [HB]; · iexact HB
    iempintro
  isplitl [HT] <;> iassumption

theorem outof (c : Dev nD) : (region m).post c ⊢ iprop(StableHlo.held (c.tc : Thread nD τ) bufs (V₂ m c) ∗ rest c) := by
  show iprop(StableHlo.held (c.tc : Thread nD τ) (Pipeline.arrRefs ((pcfgs (F := F)) 0).spec) (V₂ m c) ∗ (∃ r, prngReg c r)
      ∗ (StableHlo.held (c.tc : Thread nD τ) others (V₂ m c) ∗ emp) ∗ semVal (bar c) 0 ∗ ∃ W, owes (c.tc : Thread nD τ) (0 : CellTallies nD τ sig Unit) W)
    ⊢ _
  rw [StableHlo.held_sub_split (c.tc : Thread nD τ) arrRefs_sub (V₂ m c)]
  unfold rest
  iintro ⟨HA, -, ⟨HB, -⟩, Hz, HO⟩
  isplitl [HA HB]
  · isplitl [HA]; · iexact HA
    iexact HB
  isplitl [Hz] <;> iassumption

def host0 : Pipeline.HostSeg (Ix := Unit) (Name := ℕ) (U := UU) (Lvl := ℕ) (pcfgs (F := F)) defs₀ 𝒱₀ L lv :=
  Pipeline.HostSeg.ofOps _ _ _ _ _ bufs hostOps0 (fun op h => Pipeline.sub_ucRefs op ((List.forall_iff_forall_mem.mp hostOps0_sub) op h))
    (List.forall_iff_forall_mem.mp hostOps0_fresh) (V₀ m) (ride m)

def host1 : Pipeline.HostSeg (Ix := Unit) (Name := ℕ) (U := UU) (Lvl := ℕ) (pcfgs (F := F)) defs₀ 𝒱₀ L lv :=
  Pipeline.HostSeg.ofOps _ _ _ _ _ bufs hostOps1 (fun op h => Pipeline.sub_ucRefs op ((List.forall_iff_forall_mem.mp hostOps1_sub) op h))
    (List.forall_iff_forall_mem.mp hostOps1_fresh) (V₂ m) rest

def segs : List (Pipeline.Seg (pcfgs (F := F)) adm (pdats m) () defs₀ 𝒱₀ L lv) := [.host (host0 m), .region (region m), .host (host1 m)]

/-- The buffers a claim reads: the three arguments and the result. -/
abbrev shown : Finset (DevRef τ sig) :=
  {Proc.devRef .tc main_arg0, Proc.devRef .tc main_arg1, Proc.devRef .tc main_arg2, Proc.devRef .tc main_v21}

theorem shown_sub : shown ⊆ bufs := by decide

theorem shown_eq (c : Dev nD) (V : Valuation τ sig (Elt F)) : (StableHlo.held (c.tc : Thread nD τ) shown V : sProp 𝕄)
    = iprop((((c.tc : Thread nD τ).loc main_arg0) ↦{fullShare} V (Proc.devRef .tc main_arg0))
      ∗ (((c.tc : Thread nD τ).loc main_arg1) ↦{fullShare} V (Proc.devRef .tc main_arg1))
      ∗ (((c.tc : Thread nD τ).loc main_arg2) ↦{fullShare} V (Proc.devRef .tc main_arg2))
      ∗ (((c.tc : Thread nD τ).loc main_v21) ↦{fullShare} V (Proc.devRef .tc main_v21))) := by
  unfold StableHlo.held
  rw [bigSep_eq_bigSepL_of_eq [Proc.devRef .tc main_arg0, Proc.devRef .tc main_arg1, Proc.devRef .tc main_arg2, Proc.devRef .tc main_v21]
    (by decide) (by decide)]
  rfl

/-- An argument is as at launch when the program ends: no operation writes it, nor does the region. -/
theorem V₃_of (c : Dev nD) (b : DevRef τ sig) (h0 : ∀ op ∈ hostOps0 (F := F), b ∉ op.writes) (h1 : ∀ op ∈ hostOps1 (F := F), b ∉ op.writes)
    (h : b ≠ Proc.devRef .tc main_v19) : V₃ m c b = m ((c : Dev nD), b) := by
  show StableHlo.after hostOps1 (Function.update (StableHlo.after hostOps0 (V₀ m c)) _ _) b = _
  rw [StableHlo.after_of_forall_not_mem _ _ h1, Function.update_of_ne h, StableHlo.after_of_forall_not_mem _ _ h0]

set_option backward.isDefEq.respectTransparency.types false in
/-- From any memory with every counter at zero, on every schedule the program ends, the arguments as at launch, the result buffer at the
    last value of its host operations, every counter at zero. -/
theorem run_main : θ_run defs (onTc (τ := τ) (main (F := F))) ⟨m, fun _ => 0, ρ⟩
    (fun r => (∀ c : Dev nD, (r.2.mem ((c.tc : Thread nD τ).loc main_arg0) = V₃ m c (Proc.devRef .tc main_arg0)
        ∧ r.2.mem ((c.tc : Thread nD τ).loc main_arg1) = V₃ m c (Proc.devRef .tc main_arg1)
        ∧ r.2.mem ((c.tc : Thread nD τ).loc main_arg2) = V₃ m c (Proc.devRef .tc main_arg2)
        ∧ r.2.mem ((c.tc : Thread nD τ).loc main_v21) = V₃ m c (Proc.devRef .tc main_v21))) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host0 m) (host1 m) (region m) rfl rfl c]; rfl)
    (by simp only [segs, Pipeline.Seg.pipes_host, Pipeline.Seg.pipes_region, Pipeline.Seg.pipes_nil]; decide)
    (O₀ := owed0) (hL := L_of_ne) (G := parked) (u₀ := launchElt)
    (hu₀ := by
      unfold launchElt
      rw [parked_all]
      iintro Hu
      ihave H := (ownU_pair _ _) $$ Hu
      icases H with ⟨HP, HX⟩
      imodintro
      isplitl [HP]
      · iexact HP
      · iexact HX)
    (T₀ := first m) (Tₙ := last m)
    (hch := by
      refine ⟨fun c => .rfl, fun c => into m c, fun c => outof m c, fun c => ?_⟩
      show iprop(StableHlo.held (c.tc : Thread nD τ) bufs (V₃ m c) ∗ rest c)
        ⊢ iprop(last m c ∗ ∃ W, owes (c.tc : Thread nD τ) (0 : CellTallies nD τ sig Unit) W)
      unfold last rest
      iintro ⟨Hh, Hz, HO⟩
      isplitl [Hh Hz]
      · isplitl [Hh] <;> iassumption
      · iexact HO)
    (hinit := init m ρ)
    (QY := fun c s => (s.mem ((c.tc : Thread nD τ).loc main_arg0) = V₃ m c (Proc.devRef .tc main_arg0)
        ∧ s.mem ((c.tc : Thread nD τ).loc main_arg1) = V₃ m c (Proc.devRef .tc main_arg1)
        ∧ s.mem ((c.tc : Thread nD τ).loc main_arg2) = V₃ m c (Proc.devRef .tc main_arg2)
        ∧ s.mem ((c.tc : Thread nD τ).loc main_v21) = V₃ m c (Proc.devRef .tc main_v21)) ∧ s.sem (bar c) = 0)
    (hfin := fun c s' => by
      unfold last
      rw [StableHlo.held_sub_split (c.tc : Thread nD τ) shown_sub (V₃ m c), shown_eq]
      iintro ⟨⟨⟨⟨H0, H1, H2, H3⟩, -⟩, Hz⟩, HSI⟩
      icombine HSI H0 gives %h0
      icombine HSI H1 gives %h1
      icombine HSI H2 gives %h2
      icombine HSI H3 gives %h3
      icombine HSI Hz gives %hz
      imodintro
      isplitr
      · ipureintro
        exact ⟨⟨Buf.eq_of_forall_mem_univ h0, Buf.eq_of_forall_mem_univ h1, Buf.eq_of_forall_mem_univ h2, Buf.eq_of_forall_mem_univ h3⟩,
          by simpa using hz⟩
      iexact HSI)
    (hQ := fun s h hs => ⟨fun c => (h c).1, sem_eq_zero hs fun c sm hsm => by
        obtain rfl := unscoped_eq sm hsm
        exact (h c).2⟩)

end Cert.Ring

end
-- ==== Proof.Frames.lean ====
/-
  The frames: each program runs, its arguments end unchanged, every counter ends at zero.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Frames

open Idealize.ShloMosaic Idealize.ShloMosaic.TcCoe Idealize.SL.Sem

section
open Cert.KernelIdeal Cert.KernelIdeal.Gen
variable {F : FTy → Type} [FloatOps F] (m : (ℓ : Loc nD τ sig) → Buf (Elt F) ℓ) (ρ : Dev nD → PrngReg)

/-- A buffer that neither host operations nor the region write ends as it was. -/
theorem kept (c : Dev nD) (b : DevRef τ sig) (h : b = Proc.devRef .tc main_arg0 ∨ b = Proc.devRef .tc main_arg1 ∨ b = Proc.devRef .tc main_arg2) :
    Ring.V₃ m c b = m ((c : Dev nD), b) := by
  refine Ring.V₃_of m c b (List.forall_iff_forall_mem.mp ?_) (List.forall_iff_forall_mem.mp ?_) ?_
  · rcases h with rfl | rfl | rfl <;>
    · simp only [hostOps0, List.Forall, StableHlo.nullary_writes, StableHlo.unary_writes, StableHlo.binary_writes, StableHlo.reshape_writes,
        Finset.mem_singleton]
      repeat' apply And.intro
      all_goals exact StableHlo.devRef_ne_of_ne (by decide)
  · rcases h with rfl | rfl | rfl <;>
    · simp only [hostOps1, List.Forall, StableHlo.nullary_writes, StableHlo.unary_writes, StableHlo.binary_writes, StableHlo.reshape_writes,
        Finset.mem_singleton]
      repeat' apply And.intro
      all_goals exact StableHlo.devRef_ne_of_ne (by decide)
  · rcases h with rfl | rfl | rfl <;> exact StableHlo.devRef_ne_of_ne (by decide)

/-- The run, with the arguments at their launch contents and the result at the last value of its host operations. -/
theorem run : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.mem ((c.tc : Thread nD τ).loc main_v21) = Ring.V₃ m c (Proc.devRef .tc main_v21)) ∧ r.2.sem = fun _ => 0) :=
  (θ_run defs _ _).mono (fun r h => ⟨fun c => by
    obtain ⟨h0, h1, h2, h3⟩ := h.1 c
    exact ⟨⟨h0.trans (kept m c _ (.inl rfl)), h1.trans (kept m c _ (.inr (.inl rfl))), h2.trans (kept m c _ (.inr (.inr rfl)))⟩, h3⟩, h.2⟩)
    (Ring.run_main m ρ)

end

section
variable {F : FTy → Type} [FloatOps F]

/-! ## The program and its idealization are the same text -/

set_option maxRecDepth 100000 in
theorem same_body : @Cert.Kernel.cc0__body F _ _ = @Cert.KernelIdeal.cc0__body F _ _ := rfl

theorem same_bodies : Cert.Kernel.defs₀ (F := F) = Cert.KernelIdeal.defs₀ (F := F) := by
  unfold Cert.Kernel.defs₀ Cert.KernelIdeal.defs₀
  refine congrArg (Defs.onTc (τ := Cert.Kernel.τ)) ?_
  funext l a
  match l, a with
  | ⟨0, _⟩, (t, s) =>
    exact congrFun (congrFun (congrFun (congrFun (congrFun (congrFun (congrFun (congrFun (congrFun (congrFun (congrFun (congrFun (congrFun
      (congrFun (congrFun (congrFun same_body _) _) _) _) _) _) _) _) _) _) _) _) _) _) _) _

theorem same_defs : Cert.Kernel.defs (F := F) = Cert.KernelIdeal.defs (F := F) := by
  unfold Cert.Kernel.defs Cert.KernelIdeal.defs
  exact congrArg (Pipeline.defs Cert.Kernel.pcfgs) same_bodies

end

theorem kernel : Cert.quiescent_Kernel := fun m ρ _ => by
  rw [same_defs]
  exact (θ_run Cert.KernelIdeal.defs _ _).mono (fun _ h => ⟨fun c => (h.1 c).1, h.2⟩) (run (F := Bits) m ρ)

theorem kernelIdeal : Cert.quiescent_KernelIdeal := fun m ρ _ =>
  (θ_run Cert.KernelIdeal.defs _ _).mono (fun _ h => ⟨fun c => (h.1 c).1, h.2⟩) (run (F := Ideal) m ρ)

theorem no_sem : ∀ _ : SemLoc Cert.ReferenceIdeal.sig, False := by decide

theorem referenceIdeal : Cert.quiescent_ReferenceIdeal := fun m ρ _ =>
  (θ_run Cert.ReferenceIdeal.defs _ _).mono (fun _ h => ⟨fun c => (h c).2, funext fun g => (no_sem g.2).elim⟩)
    (Cert.ReferenceIdeal.Value.run (F := Ideal) m ρ)

end Cert.Frames

end
-- ==== Proof.Value.lean ====
/-
  With finite queries and keys, every device's part of the result is the attention of the whole arrays.
-/
module

public import proofs.«01_k».proof.Defs
public import proofs.«01_k».proof.Proof.Keys
public import proofs.«01_k».proof.Proof.Reference
public import proofs.«01_k».proof.Proof.Frames
public import Idealize.ShloMosaic.Lib.ReduceAll

@[expose] public section

set_option maxRecDepth 16384

noncomputable section

namespace Cert.Value

open Idealize.ShloMosaic Idealize.ShloMosaic.TcCoe Idealize.SL.Sem

/-! ## What the precondition says -/

instance preKernel : Cert.Pre_finite_KernelIdeal.Facts := by constructor <;> decide
instance preReference : Cert.Pre_finite_ReferenceIdeal.Facts := by constructor <;> decide

theorem real_of_abs_lt (x : EReal) (h : max x (-x) < ⊤) : ∃ r : ℝ, x = (r : EReal) := by
  induction x with
  | bot => simp at h
  | top => simp at h
  | coe r => exact ⟨r, rfl⟩

/-- All the entries of an array are reals. -/
def Reals {s : Shape} (x : FVec Ideal s .f32) : Prop := ∀ i, ∃ r : ℝ, x i = (r : EReal)

section
open Cert.Pre_finite_KernelIdeal

instance : Subsingleton S_.Idx := ⟨fun i j => funext fun a => a.elim0⟩

/-- An array all of whose entries lie below infinity in absolute value. -/
theorem real_of_reduce (x : FVec Ideal S2x256x8x64 .f32) (j : S_.Idx)
    (h : Host.reduce IntOp.andi (cmpf .olt (Host.absf x) (broadcastInDim S2x256x8x64 ![] Facts.bcast_S_S2x256x8x64 (constant S_ .f32 0x7F800000#32)))
      (constantI S_ 1 1#1) Facts.reducesTo_S2x256x8x64_S_d0_1_2_3 Facts.h_S_ j = 1#1) : Reals x := by
  intro i
  have h1 := Host.reduce_andi_all _ _ _ _ j h i
  have h2 : Ideal.cmp .olt (max (x i) (-(x i))) (Ideal.ofBits .f32 0x7F800000#32) = 1#1 := h1
  rw [Softmax.plus_infinity] at h2
  refine real_of_abs_lt _ ?_
  by_contra hn
  unfold Ideal.cmp at h2
  simp [hn] at h2

theorem real_of_pre (q k v : FVec Ideal S2x256x8x64 .f32) (h : fn (F := Ideal) q k v = fun _ => 1#1) : Reals q ∧ Reals k := by
  have h0 := IntOp.andi_eq_one.1 (congrFun h (fun a => a.elim0))
  exact ⟨real_of_reduce q _ h0.1, real_of_reduce k _ h0.2⟩

end

/-! ## The result of a device -/

section
open Cert.KernelIdeal Cert.KernelIdeal.Gen

abbrev Whole : Shape := ⟨4, ![2, 1024, 8, 64]⟩
/-- Device `c`'s part of a whole array. -/
abbrev part (v : FVec Ideal Whole .f32) (c : Dev nD) : FVec Ideal S2x256x8x64 .f32 :=
  Layout.blockN ⟨4, ![2, 256, 8, 64]⟩ ⟨4, ![2, 1024, 8, 64]⟩ (Layout.meshBlock [2, 4, 4] ![[], [1], [], []] c) v

/-- Every place of the whole arrays lies in some device's part. -/
theorem exists_part (J : Fin 1024) : ∃ (c : Dev nD) (p : Fin 256), Ring.key (Ring.place c) p = J := by
  refine ⟨⟨4 * (J.val / 256), by have := J.isLt; simp only [nD]; omega⟩, ⟨J.val % 256, by omega⟩, Fin.ext ?_⟩
  show 4 * (J.val / 256) / 4 % 4 * 256 + J.val % 256 = J.val
  have := J.isLt
  omega

theorem real_whole (v : FVec Ideal Whole .f32) (h : ∀ c : Dev nD, Reals (part v c)) : Reals v := by
  intro i
  obtain ⟨B, J, g, e, rfl⟩ : ∃ (B : Fin 2) (J : Fin 1024) (g : Fin 8) (e : Fin 64), i = ix4 B J g e := ⟨i 0, i 1, i 2, i 3, eq_ix4 i⟩
  obtain ⟨c, p, rfl⟩ := exists_part J
  obtain ⟨r, hr⟩ := h c (ix4 B p g e)
  exact ⟨r, (Ring.block_at v c B p g e).symm.trans hr⟩

variable (m : (ℓ : Loc nD τ sig) → Buf (Elt Ideal) ℓ) (q k v : FVec Ideal Whole .f32)

/-- The scores of one query of the whole arrays, in reals. -/
def score (q k : Whole.Idx → ℝ) (B : Fin 2) (g : Fin 8) (I J : Fin 1024) : ℝ := (∑ e : Fin 64, q (ix4 B I g e) * k (ix4 B J g e)) * (1 / 8)

theorem result_eq (hq : ∀ c, Ring.argQ m c = part q c) (hk : ∀ c, Ring.argK m c = part k c) (hv : ∀ c, Ring.argV m c = part v c)
    (rq : Reals q) (rk : Reals k) (c : Dev nD) :
    Ring.V₃ m c (Proc.devRef .tc main_v21) = part (Attention.attention q k v) c := by
  choose q' hq' using rq
  choose k' hk' using rk
  funext i
  obtain ⟨B, p, g, d, rfl⟩ : ∃ (B : Fin 2) (p : Fin 256) (g : Fin 8) (d : Fin 64), i = ix4 B p g d := ⟨i 0, i 1, i 2, i 3, eq_ix4 i⟩
  refine (Ring.result_at m c B p g d).trans (Eq.trans ?_ (Ring.block_at _ c B p g d).symm)
  have hw : ∀ (c' : Dev nD) (n : Fin 256), Ring.weightOf m c c' B g p n
      = Ideal.exp (score q' k' B g (Ring.key (Ring.place c) p) (Ring.key (Ring.place c') n) : EReal) := by
    intro c' n
    unfold Ring.weightOf score
    rw [hq, hk, Softmax.eighth, ← Softmax.score_before]
    simp only [part, Ring.block_at, hq', hk']
  have hs : ∀ J, Attention.scores q k (ix4 B g (Ring.key (Ring.place c) p) J) = (score q' k' B g (Ring.key (Ring.place c) p) J : EReal) := by
    intro J
    unfold score
    rw [Attention.scores_at, Softmax.eighth, ← Softmax.score_after]
    simp only [hq', hk']
  simp only [hw, hv, part, Ring.block_at]
  rw [Ring.inOrder_keys (fun J => Ideal.exp (score q' k' B g (Ring.key (Ring.place c) p) J : EReal) * v (ix4 B J g d)) c,
    Ring.inOrder_keys (fun J => Ideal.exp (score q' k' B g (Ring.key (Ring.place c) p) J : EReal)) c, Softmax.softmax,
    Attention.attention_at]
  simp only [Attention.weights_at, hs]

end

/-! ## The claims -/

theorem kernelIdealPre : Cert.quiescent_KernelIdeal_pre_finite_KernelIdeal := fun m ρ _ => Cert.Frames.kernelIdeal m ρ trivial

theorem referenceIdealPre : Cert.quiescent_ReferenceIdeal_pre_finite_ReferenceIdeal := fun m ρ _ => Cert.Frames.referenceIdeal m ρ trivial

theorem algebraic : Cert.algebraic_KernelIdeal_ReferenceIdeal_pre_finite_KernelIdeal := fun m ρ m' ρ' hpre hargs => by
  refine ⟨_, (θ_run Cert.KernelIdeal.defs _ _).mono (fun r h c => ⟨(h.1 c).2.trans ?_, (h.1 c).1⟩) (Cert.Frames.run (F := Ideal) m ρ),
    (θ_run Cert.ReferenceIdeal.defs _ _).mono (fun r h => h 0) (Cert.ReferenceIdeal.Value.run (F := Ideal) m' ρ')⟩
  have hr := fun c => real_of_pre _ _ _ (hpre c)
  exact result_eq m _ _ _ (fun c => (hargs c).1) (fun c => (hargs c).2.1) (fun c => (hargs c).2.2)
    (real_whole _ fun c => (congrArg Reals (hargs c).1).mp (hr c).1) (real_whole _ fun c => (congrArg Reals (hargs c).2.1).mp (hr c).2) c

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Value.preKernel, Cert.Value.preReference,
    Cert.Frames.kernel, Cert.Frames.kernelIdeal, Cert.Value.kernelIdealPre, Cert.Frames.referenceIdeal, Cert.Value.referenceIdealPre,
    trivial, Cert.Value.algebraic⟩

end Cert.Proof

end
